-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.PackStatement Cert.KernelIdeal.S8x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1x4096 : Shape := ⟨3, ![3, 1, 4096]⟩
abbrev S14336x319 : Shape := ⟨2, ![14336, 319]⟩
abbrev S4096x8 : Shape := ⟨2, ![4096, 8]⟩
abbrev S256x8 : Shape := ⟨2, ![256, 8]⟩
abbrev S1024x8 : Shape := ⟨2, ![1024, 8]⟩
abbrev S4096 : Shape := ⟨1, ![4096]⟩
abbrev S3x4096 : Shape := ⟨2, ![3, 4096]⟩
abbrev S3x48 : Shape := ⟨2, ![3, 48]⟩
abbrev S3x6x8 : Shape := ⟨3, ![3, 6, 8]⟩
abbrev S3x4048 : Shape := ⟨2, ![3, 4048]⟩
abbrev S3x506x8 : Shape := ⟨3, ![3, 506, 8]⟩
abbrev S_ : Shape := ⟨0, ![]⟩
abbrev S3x512x8 : Shape := ⟨3, ![3, 512, 8]⟩
abbrev S3x8x8 : Shape := ⟨3, ![3, 8, 8]⟩
abbrev S3x8x8x8x8 : Shape := ⟨5, ![3, 8, 8, 8, 8]⟩
abbrev S3x64x8x8 : Shape := ⟨4, ![3, 64, 8, 8]⟩
abbrev S3x1x8x8 : Shape := ⟨4, ![3, 1, 8, 8]⟩
abbrev S3x65x8x8 : Shape := ⟨4, ![3, 65, 8, 8]⟩
abbrev S3x65x4x2x8 : Shape := ⟨5, ![3, 65, 4, 2, 8]⟩
abbrev S3x65x4x8x2 : Shape := ⟨5, ![3, 65, 4, 8, 2]⟩
abbrev S3x4160 : Shape := ⟨2, ![3, 4160]⟩
abbrev S8x4160 : Shape := ⟨2, ![8, 4160]⟩
abbrev S48 : Shape := ⟨1, ![48]⟩
abbrev S6x8 : Shape := ⟨2, ![6, 8]⟩
abbrev S4048 : Shape := ⟨1, ![4048]⟩
abbrev S506x8 : Shape := ⟨2, ![506, 8]⟩
abbrev S512x8 : Shape := ⟨2, ![512, 8]⟩
abbrev S8x8 : Shape := ⟨2, ![8, 8]⟩
abbrev S8x8x8x8 : Shape := ⟨4, ![8, 8, 8, 8]⟩
abbrev S64x8x8 : Shape := ⟨3, ![64, 8, 8]⟩
abbrev S1x8x8 : Shape := ⟨3, ![1, 8, 8]⟩
abbrev S65x8x8 : Shape := ⟨3, ![65, 8, 8]⟩
abbrev S4160x1 : Shape := ⟨2, ![4160, 1]⟩
abbrev S4160x128 : Shape := ⟨2, ![4160, 128]⟩
abbrev S4096x4x2 : Shape := ⟨3, ![4096, 4, 2]⟩
abbrev S4096x4 : Shape := ⟨2, ![4096, 4]⟩
abbrev S4x4096 : Shape := ⟨2, ![4, 4096]⟩
abbrev S128x128 : Shape := ⟨2, ![128, 128]⟩
abbrev S256x4x2 : Shape := ⟨3, ![256, 4, 2]⟩
abbrev S256x4 : Shape := ⟨2, ![256, 4]⟩
abbrev S4x256 : Shape := ⟨2, ![4, 256]⟩
abbrev S8x128 : Shape := ⟨2, ![8, 128]⟩
abbrev S1024x4x2 : Shape := ⟨3, ![1024, 4, 2]⟩
abbrev S1024x4 : Shape := ⟨2, ![1024, 4]⟩
abbrev S4x1024 : Shape := ⟨2, ![4, 1024]⟩
abbrev S32x128 : Shape := ⟨2, ![32, 128]⟩
abbrev S8x14336 : Shape := ⟨2, ![8, 14336]⟩
abbrev S256x319 : Shape := ⟨2, ![256, 319]⟩
abbrev S8x256 : Shape := ⟨2, ![8, 256]⟩
abbrev S2x360x128 : Shape := ⟨3, ![2, 360, 128]⟩
abbrev S4160x256 : Shape := ⟨2, ![4160, 256]⟩
abbrev S128x319 : Shape := ⟨2, ![128, 319]⟩
abbrev S319x128 : Shape := ⟨2, ![319, 128]⟩
abbrev S1x319x128 : Shape := ⟨3, ![1, 319, 128]⟩
abbrev S41x128 : Shape := ⟨2, ![41, 128]⟩
abbrev S1x41x128 : Shape := ⟨3, ![1, 41, 128]⟩
abbrev S1x8x128 : Shape := ⟨3, ![1, 8, 128]⟩
abbrev S1x128 : Shape := ⟨2, ![1, 128]⟩
abbrev S8x128x1 : Shape := ⟨3, ![8, 128, 1]⟩
abbrev S16x128 : Shape := ⟨2, ![16, 128]⟩
abbrev S1x1x128 : Shape := ⟨3, ![1, 1, 128]⟩
abbrev S3x14336 : Shape := ⟨2, ![3, 14336]⟩
abbrev S3x1x14336 : Shape := ⟨3, ![3, 1, 14336]⟩

abbrev nBuf : Space → Nat
  | .hbm => 81
  | .vmem => 12
  | .smem => 0
  | _ => 0

abbrev bufTy : (tb : Table) → Fin (tcTables nBuf tb) → BufTy
  | .hbm, ⟨0, _⟩ => ⟨S3x1x4096, .bf16⟩
  | .hbm, ⟨1, _⟩ => ⟨S14336x319, .i32⟩
  | .hbm, ⟨2, _⟩ => ⟨S4096x8, .i16⟩
  | .hbm, ⟨3, _⟩ => ⟨S256x8, .i16⟩
  | .hbm, ⟨4, _⟩ => ⟨S1024x8, .i16⟩
  | .hbm, ⟨5, _⟩ => ⟨S4096, .f32⟩
  | .hbm, ⟨6, _⟩ => ⟨S4096, .f32⟩
  | .hbm, ⟨7, _⟩ => ⟨S3x4096, .bf16⟩
  | .hbm, ⟨8, _⟩ => ⟨S3x48, .bf16⟩
  | .hbm, ⟨9, _⟩ => ⟨S3x6x8, .bf16⟩
  | .hbm, ⟨10, _⟩ => ⟨S3x4048, .bf16⟩
  | .hbm, ⟨11, _⟩ => ⟨S3x506x8, .bf16⟩
  | .hbm, ⟨12, _⟩ => ⟨S_, .i32⟩
  | .hbm, ⟨13, _⟩ => ⟨S_, .bf16⟩
  | .hbm, ⟨14, _⟩ => ⟨S3x512x8, .bf16⟩
  | .hbm, ⟨15, _⟩ => ⟨S_, .i32⟩
  | .hbm, ⟨16, _⟩ => ⟨S_, .bf16⟩
  | .hbm, ⟨17, _⟩ => ⟨S3x8x8, .bf16⟩
  | .hbm, ⟨18, _⟩ => ⟨S3x8x8x8x8, .bf16⟩
  | .hbm, ⟨19, _⟩ => ⟨S3x8x8x8x8, .bf16⟩
  | .hbm, ⟨20, _⟩ => ⟨S3x64x8x8, .bf16⟩
  | .hbm, ⟨21, _⟩ => ⟨S3x8x8, .bf16⟩
  | .hbm, ⟨22, _⟩ => ⟨S3x1x8x8, .bf16⟩
  | .hbm, ⟨23, _⟩ => ⟨S3x65x8x8, .bf16⟩
  | .hbm, ⟨24, _⟩ => ⟨S3x65x4x2x8, .bf16⟩
  | .hbm, ⟨25, _⟩ => ⟨S3x65x4x8x2, .bf16⟩
  | .hbm, ⟨26, _⟩ => ⟨S3x4160, .bf16⟩
  | .hbm, ⟨27, _⟩ => ⟨S_, .i32⟩
  | .hbm, ⟨28, _⟩ => ⟨S_, .bf16⟩
  | .hbm, ⟨29, _⟩ => ⟨S8x4160, .bf16⟩
  | .hbm, ⟨30, _⟩ => ⟨S48, .f32⟩
  | .hbm, ⟨31, _⟩ => ⟨S6x8, .f32⟩
  | .hbm, ⟨32, _⟩ => ⟨S4048, .f32⟩
  | .hbm, ⟨33, _⟩ => ⟨S506x8, .f32⟩
  | .hbm, ⟨34, _⟩ => ⟨S_, .i32⟩
  | .hbm, ⟨35, _⟩ => ⟨S_, .f32⟩
  | .hbm, ⟨36, _⟩ => ⟨S512x8, .f32⟩
  | .hbm, ⟨37, _⟩ => ⟨S_, .i32⟩
  | .hbm, ⟨38, _⟩ => ⟨S_, .f32⟩
  | .hbm, ⟨39, _⟩ => ⟨S8x8, .f32⟩
  | .hbm, ⟨40, _⟩ => ⟨S8x8x8x8, .f32⟩
  | .hbm, ⟨41, _⟩ => ⟨S8x8x8x8, .f32⟩
  | .hbm, ⟨42, _⟩ => ⟨S64x8x8, .f32⟩
  | .hbm, ⟨43, _⟩ => ⟨S8x8, .f32⟩
  | .hbm, ⟨44, _⟩ => ⟨S1x8x8, .f32⟩
  | .hbm, ⟨45, _⟩ => ⟨S65x8x8, .f32⟩
  | .hbm, ⟨46, _⟩ => ⟨S4160x1, .f32⟩
  | .hbm, ⟨47, _⟩ => ⟨S4160x128, .f32⟩
  | .hbm, ⟨48, _⟩ => ⟨S48, .f32⟩
  | .hbm, ⟨49, _⟩ => ⟨S6x8, .f32⟩
  | .hbm, ⟨50, _⟩ => ⟨S4048, .f32⟩
  | .hbm, ⟨51, _⟩ => ⟨S506x8, .f32⟩
  | .hbm, ⟨52, _⟩ => ⟨S_, .i32⟩
  | .hbm, ⟨53, _⟩ => ⟨S_, .f32⟩
  | .hbm, ⟨54, _⟩ => ⟨S512x8, .f32⟩
  | .hbm, ⟨55, _⟩ => ⟨S_, .i32⟩
  | .hbm, ⟨56, _⟩ => ⟨S_, .f32⟩
  | .hbm, ⟨57, _⟩ => ⟨S8x8, .f32⟩
  | .hbm, ⟨58, _⟩ => ⟨S8x8x8x8, .f32⟩
  | .hbm, ⟨59, _⟩ => ⟨S8x8x8x8, .f32⟩
  | .hbm, ⟨60, _⟩ => ⟨S64x8x8, .f32⟩
  | .hbm, ⟨61, _⟩ => ⟨S8x8, .f32⟩
  | .hbm, ⟨62, _⟩ => ⟨S1x8x8, .f32⟩
  | .hbm, ⟨63, _⟩ => ⟨S65x8x8, .f32⟩
  | .hbm, ⟨64, _⟩ => ⟨S4160x1, .f32⟩
  | .hbm, ⟨65, _⟩ => ⟨S4160x128, .f32⟩
  | .hbm, ⟨66, _⟩ => ⟨S4096x4x2, .i16⟩
  | .hbm, ⟨67, _⟩ => ⟨S4096x4, .i32⟩
  | .hbm, ⟨68, _⟩ => ⟨S4x4096, .i32⟩
  | .hbm, ⟨69, _⟩ => ⟨S128x128, .i32⟩
  | .hbm, ⟨70, _⟩ => ⟨S256x4x2, .i16⟩
  | .hbm, ⟨71, _⟩ => ⟨S256x4, .i32⟩
  | .hbm, ⟨72, _⟩ => ⟨S4x256, .i32⟩
  | .hbm, ⟨73, _⟩ => ⟨S8x128, .i32⟩
  | .hbm, ⟨74, _⟩ => ⟨S1024x4x2, .i16⟩
  | .hbm, ⟨75, _⟩ => ⟨S1024x4, .i32⟩
  | .hbm, ⟨76, _⟩ => ⟨S4x1024, .i32⟩
  | .hbm, ⟨77, _⟩ => ⟨S32x128, .i32⟩
  | .hbm, ⟨78, _⟩ => ⟨S8x14336, .bf16⟩
  | .hbm, ⟨79, _⟩ => ⟨S3x14336, .bf16⟩
  | .hbm, ⟨80, _⟩ => ⟨S3x1x14336, .bf16⟩
  | .local _ .vmem, ⟨0, _⟩ => ⟨S256x319, .i32⟩
  | .local _ .vmem, ⟨1, _⟩ => ⟨S256x319, .i32⟩
  | .local _ .vmem, ⟨2, _⟩ => ⟨S8x4160, .bf16⟩
  | .local _ .vmem, ⟨3, _⟩ => ⟨S4160x128, .f32⟩
  | .local _ .vmem, ⟨4, _⟩ => ⟨S4160x128, .f32⟩
  | .local _ .vmem, ⟨5, _⟩ => ⟨S128x128, .i32⟩
  | .local _ .vmem, ⟨6, _⟩ => ⟨S8x128, .i32⟩
  | .local _ .vmem, ⟨7, _⟩ => ⟨S32x128, .i32⟩
  | .local _ .vmem, ⟨8, _⟩ => ⟨S8x256, .bf16⟩
  | .local _ .vmem, ⟨9, _⟩ => ⟨S8x256, .bf16⟩
  | .local _ .vmem, ⟨10, _⟩ => ⟨S2x360x128, .i32⟩
  | .local _ .vmem, ⟨11, _⟩ => ⟨S4160x256, .bf16⟩
  | _, _ => ⟨S3x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_call2_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_call3_v0 : Ref sig .tc := ⟨.hbm, 35, rfl⟩
abbrev main_v21 : Ref sig .tc := ⟨.hbm, 36, rfl⟩
abbrev main_c_3 : Ref sig .tc := ⟨.hbm, 37, rfl⟩
abbrev main_call4_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_call5_v0 : Ref sig .tc := ⟨.hbm, 53, rfl⟩
abbrev main_v35 : Ref sig .tc := ⟨.hbm, 54, rfl⟩
abbrev main_c_5 : Ref sig .tc := ⟨.hbm, 55, rfl⟩
abbrev main_call6_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [BitOps F]

abbrev grid0 : Pipeline.Grid := ⟨1, ![56], ![false]⟩

@[reducible] def k0_t1_loop : Scf.Loop 32 :=
  let c0_i32_13 : BitVec 32 := 0#32
  let c16_i32 : BitVec 32 := 16#32
  let v18 : BitVec 32 := Scalar.addi c0_i32_13 c16_i32
  let c1_i32 : BitVec 32 := 1#32
  ⟨c0_i32_13, v18, c1_i32⟩
def k0_off1 (k0_t1 : Fin k0_t1_loop.trips) (c1_i32_281 : BitVec 32) : Fin 3 → Nat :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let v848 : Index := Scalar.indexCast v835
  let c8_i32_275 : BitVec 32 := 8#32
  let c0_i32_276 : BitVec 32 := 0#32
  let v836 : BitVec 1 := Scalar.cmpi .eq c8_i32_275 c0_i32_276
  let c1_i32_277 : BitVec 32 := 1#32
  let v837 : BitVec 32 := Scalar.select v836 c1_i32_277 c8_i32_275
  let v838 : BitVec 32 := Scalar.remsi arg11 v837
  let c0_i32_279 : BitVec 32 := 0#32
  let v840 : BitVec 1 := Scalar.cmpi .slt v838 c0_i32_279
  let c0_i32_280 : BitVec 32 := 0#32
  let v841 : BitVec 1 := Scalar.cmpi .slt v837 c0_i32_280
  let v842 : BitVec 1 := Scalar.xori v840 v841
  let c0_i32_278 : BitVec 32 := 0#32
  let v839 : BitVec 1 := Scalar.cmpi .ne v838 c0_i32_278
  let v843 : BitVec 1 := Scalar.andi v842 v839
  let v844 : BitVec 32 := Scalar.addi v838 v837
  let v845 : BitVec 32 := Scalar.select v843 v844 v838
  let c40_i32 : BitVec 32 := 40#32
  let v846 : BitVec 32 := Scalar.muli v845 c40_i32
  let v847 : BitVec 32 := Scalar.addi c1_i32_281 v846
  let v849 : Index := Scalar.indexCast v847
  let c0_282 : Index := 0#32
  ![v848.toNat, v849.toNat, 0]
def k0_off2 (k0_t1 : Fin k0_t1_loop.trips) (c1_i32_281 : BitVec 32) : Fin 3 → Nat :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let v855 : Index := Scalar.indexCast v835
  let c8_i32_275 : BitVec 32 := 8#32
  let c0_i32_276 : BitVec 32 := 0#32
  let v836 : BitVec 1 := Scalar.cmpi .eq c8_i32_275 c0_i32_276
  let c1_i32_277 : BitVec 32 := 1#32
  let v837 : BitVec 32 := Scalar.select v836 c1_i32_277 c8_i32_275
  let v838 : BitVec 32 := Scalar.remsi arg11 v837
  let c0_i32_279 : BitVec 32 := 0#32
  let v840 : BitVec 1 := Scalar.cmpi .slt v838 c0_i32_279
  let c0_i32_280 : BitVec 32 := 0#32
  let v841 : BitVec 1 := Scalar.cmpi .slt v837 c0_i32_280
  let v842 : BitVec 1 := Scalar.xori v840 v841
  let c0_i32_278 : BitVec 32 := 0#32
  let v839 : BitVec 1 := Scalar.cmpi .ne v838 c0_i32_278
  let v843 : BitVec 1 := Scalar.andi v842 v839
  let v844 : BitVec 32 := Scalar.addi v838 v837
  let v845 : BitVec 32 := Scalar.select v843 v844 v838
  let c40_i32 : BitVec 32 := 40#32
  let v846 : BitVec 32 := Scalar.muli v845 c40_i32
  let v847 : BitVec 32 := Scalar.addi c1_i32_281 v846
  let c1_i32_283 : BitVec 32 := 1#32
  let v854 : BitVec 32 := Scalar.addi v847 c1_i32_283
  let v856 : Index := Scalar.indexCast v854
  let c0_284 : Index := 0#32
  ![v855.toNat, v856.toNat, 0]
def k0_off2_at (r : Fin 4) : BitVec 32 :=
  if r.val < 2 then
    if r.val < 1 then
      1#32
    else
      2#32
  else
    if r.val < 3 then
      3#32
    else
      5#32
def k0_mult1 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c8_i32_275 : BitVec 32 := 8#32
  let c0_i32_276 : BitVec 32 := 0#32
  let v836 : BitVec 1 := Scalar.cmpi .eq c8_i32_275 c0_i32_276
  let c1_i32_277 : BitVec 32 := 1#32
  let v837 : BitVec 32 := Scalar.select v836 c1_i32_277 c8_i32_275
  let v838 : BitVec 32 := Scalar.remsi arg11 v837
  let c0_i32_279 : BitVec 32 := 0#32
  let v840 : BitVec 1 := Scalar.cmpi .slt v838 c0_i32_279
  let c0_i32_280 : BitVec 32 := 0#32
  let v841 : BitVec 1 := Scalar.cmpi .slt v837 c0_i32_280
  let v842 : BitVec 1 := Scalar.xori v840 v841
  let c0_i32_278 : BitVec 32 := 0#32
  let v839 : BitVec 1 := Scalar.cmpi .ne v838 c0_i32_278
  let v843 : BitVec 1 := Scalar.andi v842 v839
  let v844 : BitVec 32 := Scalar.addi v838 v837
  let v845 : BitVec 32 := Scalar.select v843 v844 v838
  let c8_i32_297 : BitVec 32 := 8#32
  let v892 : BitVec 32 := Scalar.muli v845 c8_i32_297
  let c0_i32_298 : BitVec 32 := 0#32
  let v893 : BitVec 32 := Scalar.addi v892 c0_i32_298
  let c64_i32 : BitVec 32 := 64#32
  let v894 : BitVec 32 := Scalar.muli v893 c64_i32
  v894
def k0_off3 (k0_t1 : Fin k0_t1_loop.trips) (c0_i32_298 : BitVec 32) (c0_i32_367 : BitVec 32) : Fin 2 → Nat :=
  let c0_i32_13 : BitVec 32 := 0#32
  let c1_i32 : BitVec 32 := 1#32
  let arg11 : BitVec 32 := Scf.iv c0_i32_13 c1_i32 k0_t1
  let c8_i32_275 : BitVec 32 := 8#32
  let c0_i32_276 : BitVec 32 := 0#32
  let v836 : BitVec 1 := Scalar.cmpi .eq c8_i32_275 c0_i32_276
  let c1_i32_277 : BitVec 32 := 1#32
  let v837 : BitVec 32 := Scalar.select v836 c1_i32_277 c8_i32_275
  let v838 : BitVec 32 := Scalar.remsi arg11 v837
  let c0_i32_279 : BitVec 32 := 0#32
  let v840 : BitVec 1 := Scalar.cmpi .slt v838 c0_i32_279
  let c0_i32_280 : BitVec 32 := 0#32
  let v841 : BitVec 1 := Scalar.cmpi .slt v837 c0_i32_280
  let v842 : BitVec 1 := Scalar.xori v840 v841
  let c0_i32_278 : BitVec 32 := 0#32
  let v839 : BitVec 1 := Scalar.cmpi .ne v838 c0_i32_278
  let v843 : BitVec 1 := Scalar.andi v842 v839
  let v844 : BitVec 32 := Scalar.addi v838 v837
  let v845 : BitVec 32 := Scalar.select v843 v844 v838
  let c8_i32_297 : BitVec 32 := 8#32
  let v892 : BitVec 32 := Scalar.muli v845 c8_i32_297
  let v893 : BitVec 32 := Scalar.addi v892 c0_i32_298
  let c64_i32 : BitVec 32 := 64#32
  let v894 : BitVec 32 := Scalar.muli v893 c64_i32
  let v895 : BitVec 32 := v894
  let v1166 : BitVec 32 := Scalar.addi v895 c0_i32_367
  let v1167 : Index := Scalar.indexCast v1166
  let c0_368 : Index := 0#32
  ![v1167.toNat, 0]
def k0_mult2 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_380 : BitVec 32 := 128#32
  let v1203 : BitVec 32 := Scalar.muli v835 c128_i32_380
  v1203
def k0_off4 (k0_t1 : Fin k0_t1_loop.trips) (c0_i32_298 : BitVec 32) (c0_i32_379 : BitVec 32) : Fin 2 → Nat :=
  let c0_i32_13 : BitVec 32 := 0#32
  let c1_i32 : BitVec 32 := 1#32
  let arg11 : BitVec 32 := Scf.iv c0_i32_13 c1_i32 k0_t1
  let c8_i32_275 : BitVec 32 := 8#32
  let c0_i32_276 : BitVec 32 := 0#32
  let v836 : BitVec 1 := Scalar.cmpi .eq c8_i32_275 c0_i32_276
  let c1_i32_277 : BitVec 32 := 1#32
  let v837 : BitVec 32 := Scalar.select v836 c1_i32_277 c8_i32_275
  let v838 : BitVec 32 := Scalar.remsi arg11 v837
  let c0_i32_279 : BitVec 32 := 0#32
  let v840 : BitVec 1 := Scalar.cmpi .slt v838 c0_i32_279
  let c0_i32_280 : BitVec 32 := 0#32
  let v841 : BitVec 1 := Scalar.cmpi .slt v837 c0_i32_280
  let v842 : BitVec 1 := Scalar.xori v840 v841
  let c0_i32_278 : BitVec 32 := 0#32
  let v839 : BitVec 1 := Scalar.cmpi .ne v838 c0_i32_278
  let v843 : BitVec 1 := Scalar.andi v842 v839
  let v844 : BitVec 32 := Scalar.addi v838 v837
  let v845 : BitVec 32 := Scalar.select v843 v844 v838
  let c8_i32_297 : BitVec 32 := 8#32
  let v892 : BitVec 32 := Scalar.muli v845 c8_i32_297
  let v893 : BitVec 32 := Scalar.addi v892 c0_i32_298
  let c64_i32 : BitVec 32 := 64#32
  let v894 : BitVec 32 := Scalar.muli v893 c64_i32
  let v895 : BitVec 32 := v894
  let v1202 : BitVec 32 := Scalar.addi v895 c0_i32_379
  let v1205 : Index := Scalar.indexCast v1202
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_380 : BitVec 32 := 128#32
  let v1203 : BitVec 32 := Scalar.muli v835 c128_i32_380
  let v1204 : BitVec 32 := v1203
  let v1206 : Index := Scalar.indexCast v1204
  ![v1205.toNat, v1206.toNat]
def k0_mult3 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_429 : BitVec 32 := 128#32
  let v1517 : BitVec 32 := Scalar.muli v835 c128_i32_429
  v1517
def k0_mult4 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_478 : BitVec 32 := 128#32
  let v1831 : BitVec 32 := Scalar.muli v835 c128_i32_478
  v1831
def k0_mult5 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_526 : BitVec 32 := 128#32
  let v2145 : BitVec 32 := Scalar.muli v835 c128_i32_526
  v2145
def k0_mult6 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c8_i32_275 : BitVec 32 := 8#32
  let c0_i32_276 : BitVec 32 := 0#32
  let v836 : BitVec 1 := Scalar.cmpi .eq c8_i32_275 c0_i32_276
  let c1_i32_277 : BitVec 32 := 1#32
  let v837 : BitVec 32 := Scalar.select v836 c1_i32_277 c8_i32_275
  let v838 : BitVec 32 := Scalar.remsi arg11 v837
  let c0_i32_279 : BitVec 32 := 0#32
  let v840 : BitVec 1 := Scalar.cmpi .slt v838 c0_i32_279
  let c0_i32_280 : BitVec 32 := 0#32
  let v841 : BitVec 1 := Scalar.cmpi .slt v837 c0_i32_280
  let v842 : BitVec 1 := Scalar.xori v840 v841
  let c0_i32_278 : BitVec 32 := 0#32
  let v839 : BitVec 1 := Scalar.cmpi .ne v838 c0_i32_278
  let v843 : BitVec 1 := Scalar.andi v842 v839
  let v844 : BitVec 32 := Scalar.addi v838 v837
  let v845 : BitVec 32 := Scalar.select v843 v844 v838
  let c8_i32_549 : BitVec 32 := 8#32
  let v2198 : BitVec 32 := Scalar.muli v845 c8_i32_549
  let c1_i32_550 : BitVec 32 := 1#32
  let v2199 : BitVec 32 := Scalar.addi v2198 c1_i32_550
  let c64_i32_551 : BitVec 32 := 64#32
  let v2200 : BitVec 32 := Scalar.muli v2199 c64_i32_551
  v2200
def k0_mult7 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_633 : BitVec 32 := 128#32
  let v2509 : BitVec 32 := Scalar.muli v835 c128_i32_633
  v2509
def k0_mult8 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_715 : BitVec 32 := 128#32
  let v2823 : BitVec 32 := Scalar.muli v835 c128_i32_715
  v2823
def k0_mult9 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_797 : BitVec 32 := 128#32
  let v3137 : BitVec 32 := Scalar.muli v835 c128_i32_797
  v3137
def k0_mult10 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_879 : BitVec 32 := 128#32
  let v3451 : BitVec 32 := Scalar.muli v835 c128_i32_879
  v3451
def k0_mult11 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c8_i32_275 : BitVec 32 := 8#32
  let c0_i32_276 : BitVec 32 := 0#32
  let v836 : BitVec 1 := Scalar.cmpi .eq c8_i32_275 c0_i32_276
  let c1_i32_277 : BitVec 32 := 1#32
  let v837 : BitVec 32 := Scalar.select v836 c1_i32_277 c8_i32_275
  let v838 : BitVec 32 := Scalar.remsi arg11 v837
  let c0_i32_279 : BitVec 32 := 0#32
  let v840 : BitVec 1 := Scalar.cmpi .slt v838 c0_i32_279
  let c0_i32_280 : BitVec 32 := 0#32
  let v841 : BitVec 1 := Scalar.cmpi .slt v837 c0_i32_280
  let v842 : BitVec 1 := Scalar.xori v840 v841
  let c0_i32_278 : BitVec 32 := 0#32
  let v839 : BitVec 1 := Scalar.cmpi .ne v838 c0_i32_278
  let v843 : BitVec 1 := Scalar.andi v842 v839
  let v844 : BitVec 32 := Scalar.addi v838 v837
  let v845 : BitVec 32 := Scalar.select v843 v844 v838
  let c8_i32_898 : BitVec 32 := 8#32
  let v3496 : BitVec 32 := Scalar.muli v845 c8_i32_898
  let c2_i32_899 : BitVec 32 := 2#32
  let v3497 : BitVec 32 := Scalar.addi v3496 c2_i32_899
  let c64_i32_900 : BitVec 32 := 64#32
  let v3498 : BitVec 32 := Scalar.muli v3497 c64_i32_900
  v3498
def k0_mult12 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_982 : BitVec 32 := 128#32
  let v3807 : BitVec 32 := Scalar.muli v835 c128_i32_982
  v3807
def k0_mult13 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_1064 : BitVec 32 := 128#32
  let v4121 : BitVec 32 := Scalar.muli v835 c128_i32_1064
  v4121
def k0_mult14 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_1146 : BitVec 32 := 128#32
  let v4435 : BitVec 32 := Scalar.muli v835 c128_i32_1146
  v4435
def k0_mult15 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_1228 : BitVec 32 := 128#32
  let v4749 : BitVec 32 := Scalar.muli v835 c128_i32_1228
  v4749
def k0_mult16 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c8_i32_275 : BitVec 32 := 8#32
  let c0_i32_276 : BitVec 32 := 0#32
  let v836 : BitVec 1 := Scalar.cmpi .eq c8_i32_275 c0_i32_276
  let c1_i32_277 : BitVec 32 := 1#32
  let v837 : BitVec 32 := Scalar.select v836 c1_i32_277 c8_i32_275
  let v838 : BitVec 32 := Scalar.remsi arg11 v837
  let c0_i32_279 : BitVec 32 := 0#32
  let v840 : BitVec 1 := Scalar.cmpi .slt v838 c0_i32_279
  let c0_i32_280 : BitVec 32 := 0#32
  let v841 : BitVec 1 := Scalar.cmpi .slt v837 c0_i32_280
  let v842 : BitVec 1 := Scalar.xori v840 v841
  let c0_i32_278 : BitVec 32 := 0#32
  let v839 : BitVec 1 := Scalar.cmpi .ne v838 c0_i32_278
  let v843 : BitVec 1 := Scalar.andi v842 v839
  let v844 : BitVec 32 := Scalar.addi v838 v837
  let v845 : BitVec 32 := Scalar.select v843 v844 v838
  let c8_i32_1251 : BitVec 32 := 8#32
  let v4802 : BitVec 32 := Scalar.muli v845 c8_i32_1251
  let c3_i32_1252 : BitVec 32 := 3#32
  let v4803 : BitVec 32 := Scalar.addi v4802 c3_i32_1252
  let c64_i32_1253 : BitVec 32 := 64#32
  let v4804 : BitVec 32 := Scalar.muli v4803 c64_i32_1253
  v4804
def k0_mult17 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_1335 : BitVec 32 := 128#32
  let v5113 : BitVec 32 := Scalar.muli v835 c128_i32_1335
  v5113
def k0_mult18 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_1417 : BitVec 32 := 128#32
  let v5427 : BitVec 32 := Scalar.muli v835 c128_i32_1417
  v5427
def k0_mult19 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_1499 : BitVec 32 := 128#32
  let v5741 : BitVec 32 := Scalar.muli v835 c128_i32_1499
  v5741
def k0_mult20 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_1581 : BitVec 32 := 128#32
  let v6055 : BitVec 32 := Scalar.muli v835 c128_i32_1581
  v6055
def k0_mult21 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c8_i32_275 : BitVec 32 := 8#32
  let c0_i32_276 : BitVec 32 := 0#32
  let v836 : BitVec 1 := Scalar.cmpi .eq c8_i32_275 c0_i32_276
  let c1_i32_277 : BitVec 32 := 1#32
  let v837 : BitVec 32 := Scalar.select v836 c1_i32_277 c8_i32_275
  let v838 : BitVec 32 := Scalar.remsi arg11 v837
  let c0_i32_279 : BitVec 32 := 0#32
  let v840 : BitVec 1 := Scalar.cmpi .slt v838 c0_i32_279
  let c0_i32_280 : BitVec 32 := 0#32
  let v841 : BitVec 1 := Scalar.cmpi .slt v837 c0_i32_280
  let v842 : BitVec 1 := Scalar.xori v840 v841
  let c0_i32_278 : BitVec 32 := 0#32
  let v839 : BitVec 1 := Scalar.cmpi .ne v838 c0_i32_278
  let v843 : BitVec 1 := Scalar.andi v842 v839
  let v844 : BitVec 32 := Scalar.addi v838 v837
  let v845 : BitVec 32 := Scalar.select v843 v844 v838
  let c8_i32_1601 : BitVec 32 := 8#32
  let v6100 : BitVec 32 := Scalar.muli v845 c8_i32_1601
  let c4_i32_1602 : BitVec 32 := 4#32
  let v6101 : BitVec 32 := Scalar.addi v6100 c4_i32_1602
  let c64_i32_1603 : BitVec 32 := 64#32
  let v6102 : BitVec 32 := Scalar.muli v6101 c64_i32_1603
  v6102
def k0_mult22 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_1685 : BitVec 32 := 128#32
  let v6411 : BitVec 32 := Scalar.muli v835 c128_i32_1685
  v6411
def k0_mult23 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_1767 : BitVec 32 := 128#32
  let v6725 : BitVec 32 := Scalar.muli v835 c128_i32_1767
  v6725
def k0_mult24 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_1849 : BitVec 32 := 128#32
  let v7039 : BitVec 32 := Scalar.muli v835 c128_i32_1849
  v7039
def k0_mult25 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_1931 : BitVec 32 := 128#32
  let v7353 : BitVec 32 := Scalar.muli v835 c128_i32_1931
  v7353
def k0_mult26 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c8_i32_275 : BitVec 32 := 8#32
  let c0_i32_276 : BitVec 32 := 0#32
  let v836 : BitVec 1 := Scalar.cmpi .eq c8_i32_275 c0_i32_276
  let c1_i32_277 : BitVec 32 := 1#32
  let v837 : BitVec 32 := Scalar.select v836 c1_i32_277 c8_i32_275
  let v838 : BitVec 32 := Scalar.remsi arg11 v837
  let c0_i32_279 : BitVec 32 := 0#32
  let v840 : BitVec 1 := Scalar.cmpi .slt v838 c0_i32_279
  let c0_i32_280 : BitVec 32 := 0#32
  let v841 : BitVec 1 := Scalar.cmpi .slt v837 c0_i32_280
  let v842 : BitVec 1 := Scalar.xori v840 v841
  let c0_i32_278 : BitVec 32 := 0#32
  let v839 : BitVec 1 := Scalar.cmpi .ne v838 c0_i32_278
  let v843 : BitVec 1 := Scalar.andi v842 v839
  let v844 : BitVec 32 := Scalar.addi v838 v837
  let v845 : BitVec 32 := Scalar.select v843 v844 v838
  let c8_i32_1949 : BitVec 32 := 8#32
  let v7396 : BitVec 32 := Scalar.muli v845 c8_i32_1949
  let c5_i32_1950 : BitVec 32 := 5#32
  let v7397 : BitVec 32 := Scalar.addi v7396 c5_i32_1950
  let c64_i32_1951 : BitVec 32 := 64#32
  let v7398 : BitVec 32 := Scalar.muli v7397 c64_i32_1951
  v7398
def k0_mult27 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_2033 : BitVec 32 := 128#32
  let v7707 : BitVec 32 := Scalar.muli v835 c128_i32_2033
  v7707
def k0_mult28 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_2115 : BitVec 32 := 128#32
  let v8021 : BitVec 32 := Scalar.muli v835 c128_i32_2115
  v8021
def k0_mult29 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_2197 : BitVec 32 := 128#32
  let v8335 : BitVec 32 := Scalar.muli v835 c128_i32_2197
  v8335
def k0_mult30 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_2279 : BitVec 32 := 128#32
  let v8649 : BitVec 32 := Scalar.muli v835 c128_i32_2279
  v8649
def k0_mult31 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c8_i32_275 : BitVec 32 := 8#32
  let c0_i32_276 : BitVec 32 := 0#32
  let v836 : BitVec 1 := Scalar.cmpi .eq c8_i32_275 c0_i32_276
  let c1_i32_277 : BitVec 32 := 1#32
  let v837 : BitVec 32 := Scalar.select v836 c1_i32_277 c8_i32_275
  let v838 : BitVec 32 := Scalar.remsi arg11 v837
  let c0_i32_279 : BitVec 32 := 0#32
  let v840 : BitVec 1 := Scalar.cmpi .slt v838 c0_i32_279
  let c0_i32_280 : BitVec 32 := 0#32
  let v841 : BitVec 1 := Scalar.cmpi .slt v837 c0_i32_280
  let v842 : BitVec 1 := Scalar.xori v840 v841
  let c0_i32_278 : BitVec 32 := 0#32
  let v839 : BitVec 1 := Scalar.cmpi .ne v838 c0_i32_278
  let v843 : BitVec 1 := Scalar.andi v842 v839
  let v844 : BitVec 32 := Scalar.addi v838 v837
  let v845 : BitVec 32 := Scalar.select v843 v844 v838
  let c8_i32_2302 : BitVec 32 := 8#32
  let v8702 : BitVec 32 := Scalar.muli v845 c8_i32_2302
  let c6_i32 : BitVec 32 := 6#32
  let v8703 : BitVec 32 := Scalar.addi v8702 c6_i32
  let c64_i32_2303 : BitVec 32 := 64#32
  let v8704 : BitVec 32 := Scalar.muli v8703 c64_i32_2303
  v8704
def k0_mult32 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_2385 : BitVec 32 := 128#32
  let v9013 : BitVec 32 := Scalar.muli v835 c128_i32_2385
  v9013
def k0_mult33 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_2467 : BitVec 32 := 128#32
  let v9327 : BitVec 32 := Scalar.muli v835 c128_i32_2467
  v9327
def k0_mult34 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_2549 : BitVec 32 := 128#32
  let v9641 : BitVec 32 := Scalar.muli v835 c128_i32_2549
  v9641
def k0_mult35 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_2631 : BitVec 32 := 128#32
  let v9955 : BitVec 32 := Scalar.muli v835 c128_i32_2631
  v9955
def k0_mult36 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c8_i32_275 : BitVec 32 := 8#32
  let c0_i32_276 : BitVec 32 := 0#32
  let v836 : BitVec 1 := Scalar.cmpi .eq c8_i32_275 c0_i32_276
  let c1_i32_277 : BitVec 32 := 1#32
  let v837 : BitVec 32 := Scalar.select v836 c1_i32_277 c8_i32_275
  let v838 : BitVec 32 := Scalar.remsi arg11 v837
  let c0_i32_279 : BitVec 32 := 0#32
  let v840 : BitVec 1 := Scalar.cmpi .slt v838 c0_i32_279
  let c0_i32_280 : BitVec 32 := 0#32
  let v841 : BitVec 1 := Scalar.cmpi .slt v837 c0_i32_280
  let v842 : BitVec 1 := Scalar.xori v840 v841
  let c0_i32_278 : BitVec 32 := 0#32
  let v839 : BitVec 1 := Scalar.cmpi .ne v838 c0_i32_278
  let v843 : BitVec 1 := Scalar.andi v842 v839
  let v844 : BitVec 32 := Scalar.addi v838 v837
  let v845 : BitVec 32 := Scalar.select v843 v844 v838
  let c8_i32_2651 : BitVec 32 := 8#32
  let v10000 : BitVec 32 := Scalar.muli v845 c8_i32_2651
  let c7_i32 : BitVec 32 := 7#32
  let v10001 : BitVec 32 := Scalar.addi v10000 c7_i32
  let c64_i32_2652 : BitVec 32 := 64#32
  let v10002 : BitVec 32 := Scalar.muli v10001 c64_i32_2652
  v10002
def k0_mult37 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_2734 : BitVec 32 := 128#32
  let v10311 : BitVec 32 := Scalar.muli v835 c128_i32_2734
  v10311
def k0_mult38 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_2816 : BitVec 32 := 128#32
  let v10625 : BitVec 32 := Scalar.muli v835 c128_i32_2816
  v10625
def k0_mult39 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_2898 : BitVec 32 := 128#32
  let v10939 : BitVec 32 := Scalar.muli v835 c128_i32_2898
  v10939
def k0_mult40 (k0_t1 : Fin k0_t1_loop.trips) : BitVec 32 :=
  let c0_i32_13 : BitVec 32 := 0#32
  let c1_i32 : BitVec 32 := 1#32
  let arg11 : BitVec 32 := Scf.iv c0_i32_13 c1_i32 k0_t1
  let c0_i32_269 : BitVec 32 := 0#32
  let v820 : BitVec 1 := Scalar.cmpi .sgt arg11 c0_i32_269
  let v821 : BitVec 32 := Scalar.extui v820
  let c0_i32_270 : BitVec 32 := 0#32
  let v822 : BitVec 1 := Scalar.cmpi .slt arg11 c0_i32_270
  let v823 : BitVec 32 := Scalar.extui v822
  let v824 : BitVec 32 := Scalar.subi v821 v823
  let c8_i32_268 : BitVec 32 := 8#32
  let c0_i32_271 : BitVec 32 := 0#32
  let v825 : BitVec 1 := Scalar.cmpi .sgt c8_i32_268 c0_i32_271
  let v826 : BitVec 32 := Scalar.extui v825
  let c0_i32_272 : BitVec 32 := 0#32
  let v827 : BitVec 1 := Scalar.cmpi .slt c8_i32_268 c0_i32_272
  let v828 : BitVec 32 := Scalar.extui v827
  let v829 : BitVec 32 := Scalar.subi v826 v828
  let v830 : BitVec 1 := Scalar.cmpi .ne v824 v829
  let v831 : BitVec 32 := Scalar.remsi arg11 c8_i32_268
  let c0_i32_273 : BitVec 32 := 0#32
  let v832 : BitVec 1 := Scalar.cmpi .ne v831 c0_i32_273
  let v833 : BitVec 1 := Scalar.andi v830 v832
  let v819 : BitVec 32 := Scalar.divsi arg11 c8_i32_268
  let c1_i32_274 : BitVec 32 := 1#32
  let v834 : BitVec 32 := Scalar.subi v819 c1_i32_274
  let v835 : BitVec 32 := Scalar.select v833 v834 v819
  let c128_i32_2980 : BitVec 32 := 128#32
  let v11253 : BitVec 32 := Scalar.muli v835 c128_i32_2980
  v11253
def k0_mult41 : BitVec 32 :=
  let c0_i32_58 : BitVec 32 := 0#32
  c0_i32_58
def k0_mult42 : BitVec 32 :=
  let c0_i32_76 : BitVec 32 := 0#32
  c0_i32_76
def k0_mult43 : BitVec 32 :=
  let c0_i32_94 : BitVec 32 := 0#32
  c0_i32_94
def k0_mult44 : BitVec 32 :=
  let c0_i32_112 : BitVec 32 := 0#32
  c0_i32_112
def k0_mult45 : BitVec 32 :=
  let c128_i32_176 : BitVec 32 := 128#32
  c128_i32_176
def k0_mult46 : BitVec 32 :=
  let c128_i32_204 : BitVec 32 := 128#32
  c128_i32_204
def k0_mult47 : BitVec 32 :=
  let c128_i32_232 : BitVec 32 := 128#32
  c128_i32_232
def k0_mult48 : BitVec 32 :=
  let c128_i32_260 : BitVec 32 := 128#32
  c128_i32_260
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x319 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F]
-- ==== ReferenceIdeal.lean ====
abbrev S3x1x4096 : Shape := ⟨3, ![3, 1, 4096]⟩
abbrev S14336x319 : Shape := ⟨2, ![14336, 319]⟩
abbrev S4096x8 : Shape := ⟨2, ![4096, 8]⟩
abbrev S256x8 : Shape := ⟨2, ![256, 8]⟩
abbrev S1024x8 : Shape := ⟨2, ![1024, 8]⟩
abbrev S4096 : Shape := ⟨1, ![4096]⟩
abbrev S6 : Shape := ⟨1, ![6]⟩
abbrev S_ : Shape := ⟨0, ![]⟩
abbrev S506 : Shape := ⟨1, ![506]⟩
abbrev S6x1 : Shape := ⟨2, ![6, 1]⟩
abbrev S14336x6 : Shape := ⟨2, ![14336, 6]⟩
abbrev S1x6 : Shape := ⟨2, ![1, 6]⟩
abbrev S506x1 : Shape := ⟨2, ![506, 1]⟩
abbrev S14336x506 : Shape := ⟨2, ![14336, 506]⟩
abbrev S1x506 : Shape := ⟨2, ![1, 506]⟩
abbrev S48 : Shape := ⟨1, ![48]⟩
abbrev S6x8 : Shape := ⟨2, ![6, 8]⟩
abbrev S14336x6x1 : Shape := ⟨3, ![14336, 6, 1]⟩
abbrev S14336x6x8 : Shape := ⟨3, ![14336, 6, 8]⟩
abbrev S1x6x8 : Shape := ⟨3, ![1, 6, 8]⟩
abbrev S14336x48 : Shape := ⟨2, ![14336, 48]⟩
abbrev S4048 : Shape := ⟨1, ![4048]⟩
abbrev S506x8 : Shape := ⟨2, ![506, 8]⟩
abbrev S14336x506x1 : Shape := ⟨3, ![14336, 506, 1]⟩
abbrev S14336x506x8 : Shape := ⟨3, ![14336, 506, 8]⟩
abbrev S1x506x8 : Shape := ⟨3, ![1, 506, 8]⟩
abbrev S14336x4048 : Shape := ⟨2, ![14336, 4048]⟩
abbrev S14336x4096 : Shape := ⟨2, ![14336, 4096]⟩
abbrev S3x1x14336 : Shape := ⟨3, ![3, 1, 14336]⟩

abbrev nBuf : Space → Nat
  | .hbm => 199
  | .vmem => 0
  | .smem => 0
  | _ => 0

abbrev hbmTy0_0 (i : Nat) : BufTy := match i % 128 with
  | 0 => ⟨S3x1x4096, .bf16⟩
  | 1 => ⟨S14336x319, .i32⟩
  | 2 => ⟨S4096x8, .i16⟩
  | 3 => ⟨S256x8, .i16⟩
  | 4 => ⟨S1024x8, .i16⟩
  | 5 => ⟨S4096, .f32⟩
  | 6 => ⟨S4096, .f32⟩
  | 7 => ⟨S14336x319, .i32⟩
  | 8 => ⟨S4096x8, .bf16⟩
  | 9 => ⟨S256x8, .bf16⟩
  | 10 => ⟨S1024x8, .bf16⟩
  | 11 => ⟨S6, .i32⟩
  | 12 => ⟨S_, .i32⟩
  | 13 => ⟨S6, .i32⟩
  | 14 => ⟨S6, .i32⟩
  | 15 => ⟨S506, .i32⟩
  | 16 => ⟨S_, .i32⟩
  | 17 => ⟨S506, .i32⟩
  | 18 => ⟨S506, .i32⟩
  | 19 => ⟨S_, .i32⟩
  | 20 => ⟨S506, .i32⟩
  | 21 => ⟨S506, .i32⟩
  | 22 => ⟨S_, .i32⟩
  | 23 => ⟨S6, .i32⟩
  | 24 => ⟨S6, .i32⟩
  | 25 => ⟨S6, .i32⟩
  | 26 => ⟨S_, .i32⟩
  | 27 => ⟨S6, .i32⟩
  | 28 => ⟨S6, .i32⟩
  | 29 => ⟨S_, .i32⟩
  | 30 => ⟨S6, .i32⟩
  | 31 => ⟨S6, .i32⟩
  | 32 => ⟨S6, .i32⟩
  | 33 => ⟨S6x1, .i32⟩
  | 34 => ⟨S14336x6, .i32⟩
  | 35 => ⟨S6, .i32⟩
  | 36 => ⟨S6x1, .i32⟩
  | 37 => ⟨S14336x6, .i32⟩
  | 38 => ⟨S_, .i32⟩
  | 39 => ⟨S6, .i32⟩
  | 40 => ⟨S6, .i32⟩
  | 41 => ⟨S_, .i32⟩
  | 42 => ⟨S6, .i32⟩
  | 43 => ⟨S6, .i1⟩
  | 44 => ⟨S6, .i32⟩
  | 45 => ⟨S6, .i32⟩
  | 46 => ⟨S1x6, .i32⟩
  | 47 => ⟨S14336x6, .i32⟩
  | 48 => ⟨S14336x6, .i32⟩
  | 49 => ⟨S_, .i32⟩
  | 50 => ⟨S14336x6, .i1⟩
  | 51 => ⟨S14336x6, .i32⟩
  | 52 => ⟨S14336x6, .i32⟩
  | 53 => ⟨S1x6, .i32⟩
  | 54 => ⟨S14336x6, .i32⟩
  | 55 => ⟨S14336x6, .i32⟩
  | 56 => ⟨S14336x6, .i32⟩
  | 57 => ⟨S_, .i32⟩
  | 58 => ⟨S14336x6, .i32⟩
  | 59 => ⟨S14336x6, .i32⟩
  | 60 => ⟨S14336x6, .i32⟩
  | 61 => ⟨S_, .i32⟩
  | 62 => ⟨S506, .i32⟩
  | 63 => ⟨S506, .i32⟩
  | 64 => ⟨S506, .i32⟩
  | 65 => ⟨S_, .i32⟩
  | 66 => ⟨S506, .i32⟩
  | 67 => ⟨S506, .i32⟩
  | 68 => ⟨S_, .i32⟩
  | 69 => ⟨S506, .i32⟩
  | 70 => ⟨S506, .i32⟩
  | 71 => ⟨S506, .i32⟩
  | 72 => ⟨S506x1, .i32⟩
  | 73 => ⟨S14336x506, .i32⟩
  | 74 => ⟨S506, .i32⟩
  | 75 => ⟨S506x1, .i32⟩
  | 76 => ⟨S14336x506, .i32⟩
  | 77 => ⟨S_, .i32⟩
  | 78 => ⟨S506, .i32⟩
  | 79 => ⟨S506, .i32⟩
  | 80 => ⟨S_, .i32⟩
  | 81 => ⟨S506, .i32⟩
  | 82 => ⟨S506, .i1⟩
  | 83 => ⟨S506, .i32⟩
  | 84 => ⟨S506, .i32⟩
  | 85 => ⟨S1x506, .i32⟩
  | 86 => ⟨S14336x506, .i32⟩
  | 87 => ⟨S14336x506, .i32⟩
  | 88 => ⟨S_, .i32⟩
  | 89 => ⟨S14336x506, .i1⟩
  | 90 => ⟨S14336x506, .i32⟩
  | 91 => ⟨S14336x506, .i32⟩
  | 92 => ⟨S1x506, .i32⟩
  | 93 => ⟨S14336x506, .i32⟩
  | 94 => ⟨S14336x506, .i32⟩
  | 95 => ⟨S14336x506, .i32⟩
  | 96 => ⟨S_, .i32⟩
  | 97 => ⟨S14336x506, .i32⟩
  | 98 => ⟨S14336x506, .i32⟩
  | 99 => ⟨S14336x506, .i32⟩
  | 100 => ⟨S_, .i32⟩
  | 101 => ⟨S506, .i32⟩
  | 102 => ⟨S506, .i32⟩
  | 103 => ⟨S_, .i32⟩
  | 104 => ⟨S506, .i32⟩
  | 105 => ⟨S506, .i32⟩
  | 106 => ⟨S506, .i32⟩
  | 107 => ⟨S_, .i32⟩
  | 108 => ⟨S506, .i32⟩
  | 109 => ⟨S506, .i32⟩
  | 110 => ⟨S_, .i32⟩
  | 111 => ⟨S506, .i32⟩
  | 112 => ⟨S506, .i32⟩
  | 113 => ⟨S506, .i32⟩
  | 114 => ⟨S506x1, .i32⟩
  | 115 => ⟨S14336x506, .i32⟩
  | 116 => ⟨S506, .i32⟩
  | 117 => ⟨S506x1, .i32⟩
  | 118 => ⟨S14336x506, .i32⟩
  | 119 => ⟨S_, .i32⟩
  | 120 => ⟨S506, .i32⟩
  | 121 => ⟨S506, .i32⟩
  | 122 => ⟨S_, .i32⟩
  | 123 => ⟨S506, .i32⟩
  | 124 => ⟨S506, .i1⟩
  | 125 => ⟨S506, .i32⟩
  | 126 => ⟨S506, .i32⟩
  | 127 => ⟨S1x506, .i32⟩
  | _ => ⟨S3x1x4096, .bf16⟩

abbrev hbmTy0_1 (i : Nat) : BufTy := match i % 128 with
  | 0 => ⟨S14336x506, .i32⟩
  | 1 => ⟨S14336x506, .i32⟩
  | 2 => ⟨S_, .i32⟩
  | 3 => ⟨S14336x506, .i1⟩
  | 4 => ⟨S14336x506, .i32⟩
  | 5 => ⟨S14336x506, .i32⟩
  | 6 => ⟨S1x506, .i32⟩
  | 7 => ⟨S14336x506, .i32⟩
  | 8 => ⟨S14336x506, .i32⟩
  | 9 => ⟨S14336x506, .i32⟩
  | 10 => ⟨S_, .i32⟩
  | 11 => ⟨S14336x506, .i32⟩
  | 12 => ⟨S14336x506, .i32⟩
  | 13 => ⟨S14336x506, .i32⟩
  | 14 => ⟨S48, .f32⟩
  | 15 => ⟨S6x8, .f32⟩
  | 16 => ⟨S48, .f32⟩
  | 17 => ⟨S6x8, .f32⟩
  | 18 => ⟨S1024x8, .f32⟩
  | 19 => ⟨S_, .i32⟩
  | 20 => ⟨S14336x6, .i32⟩
  | 21 => ⟨S14336x6, .i1⟩
  | 22 => ⟨S_, .i32⟩
  | 23 => ⟨S14336x6, .i32⟩
  | 24 => ⟨S14336x6, .i32⟩
  | 25 => ⟨S14336x6, .i32⟩
  | 26 => ⟨S14336x6x1, .i32⟩
  | 27 => ⟨S14336x6x8, .f32⟩
  | 28 => ⟨S1x6x8, .f32⟩
  | 29 => ⟨S14336x6x8, .f32⟩
  | 30 => ⟨S14336x6x8, .f32⟩
  | 31 => ⟨S1x6x8, .f32⟩
  | 32 => ⟨S14336x6x8, .f32⟩
  | 33 => ⟨S14336x6x8, .f32⟩
  | 34 => ⟨S14336x48, .f32⟩
  | 35 => ⟨S4048, .f32⟩
  | 36 => ⟨S506x8, .f32⟩
  | 37 => ⟨S4048, .f32⟩
  | 38 => ⟨S506x8, .f32⟩
  | 39 => ⟨S4096x8, .f32⟩
  | 40 => ⟨S_, .i32⟩
  | 41 => ⟨S14336x506, .i32⟩
  | 42 => ⟨S14336x506, .i1⟩
  | 43 => ⟨S_, .i32⟩
  | 44 => ⟨S14336x506, .i32⟩
  | 45 => ⟨S14336x506, .i32⟩
  | 46 => ⟨S14336x506, .i32⟩
  | 47 => ⟨S14336x506x1, .i32⟩
  | 48 => ⟨S14336x506x8, .f32⟩
  | 49 => ⟨S256x8, .f32⟩
  | 50 => ⟨S_, .i32⟩
  | 51 => ⟨S14336x506, .i32⟩
  | 52 => ⟨S14336x506, .i1⟩
  | 53 => ⟨S_, .i32⟩
  | 54 => ⟨S14336x506, .i32⟩
  | 55 => ⟨S14336x506, .i32⟩
  | 56 => ⟨S14336x506, .i32⟩
  | 57 => ⟨S14336x506x1, .i32⟩
  | 58 => ⟨S14336x506x8, .f32⟩
  | 59 => ⟨S14336x506x8, .f32⟩
  | 60 => ⟨S1x506x8, .f32⟩
  | 61 => ⟨S14336x506x8, .f32⟩
  | 62 => ⟨S14336x506x8, .f32⟩
  | 63 => ⟨S1x506x8, .f32⟩
  | 64 => ⟨S14336x506x8, .f32⟩
  | 65 => ⟨S14336x506x8, .f32⟩
  | 66 => ⟨S14336x4048, .f32⟩
  | 67 => ⟨S14336x4096, .f32⟩
  | 68 => ⟨S14336x4096, .bf16⟩
  | 69 => ⟨S3x1x14336, .f32⟩
  | 70 => ⟨S3x1x14336, .bf16⟩
  | _ => ⟨S3x1x4096, .bf16⟩

abbrev hbmTy (i : Nat) : BufTy := match i / 128 with
  | 0 => hbmTy0_0 i
  | 1 => hbmTy0_1 i
  | _ => ⟨S3x1x4096, .bf16⟩

abbrev bufTy : (tb : Table) → Fin (tcTables nBuf tb) → BufTy
  | .hbm, ⟨i, _⟩ => hbmTy i
  | _, _ => ⟨S3x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_call0_v0 : Ref sig .tc := ⟨.hbm, 50, rfl⟩
abbrev main_call0_v1 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_12 : Ref sig .tc := ⟨.hbm, 77, rfl⟩
abbrev main_v55 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_call1_v0 : Ref sig .tc := ⟨.hbm, 89, rfl⟩
abbrev main_call1_v1 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_16 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_c_19 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_20 : Ref sig .tc := ⟨.hbm, 119, rfl⟩
abbrev main_v87 : Ref sig .tc := ⟨.hbm, 120, rfl⟩
abbrev main_v88 : Ref sig .tc := ⟨.hbm, 121, rfl⟩
abbrev main_c_21 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_22 : Ref sig .tc := ⟨.hbm, 130, rfl⟩
abbrev main_call2_v0 : Ref sig .tc := ⟨.hbm, 131, rfl⟩
abbrev main_call2_v1 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_c_23 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_24 : Ref sig .tc := ⟨.hbm, 147, rfl⟩
abbrev main_v109 : Ref sig .tc := ⟨.hbm, 148, rfl⟩
abbrev main_v110 : Ref sig .tc := ⟨.hbm, 149, rfl⟩
abbrev main_c_25 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_c_26 : Ref sig .tc := ⟨.hbm, 168, rfl⟩
abbrev main_v128 : Ref sig .tc := ⟨.hbm, 169, rfl⟩
abbrev main_v129 : Ref sig .tc := ⟨.hbm, 170, rfl⟩
abbrev main_c_27 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_c_28 : Ref sig .tc := ⟨.hbm, 178, rfl⟩
abbrev main_v136 : Ref sig .tc := ⟨.hbm, 179, rfl⟩
abbrev main_v137 : Ref sig .tc := ⟨.hbm, 180, rfl⟩
abbrev main_c_29 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩

abbrev nD : Nat := 1
abbrev τ : Topo := Topo.v7x

variable {F : FTy → Type} [FloatOps F]
-- ==== Proof.Kernel.Trip.lean ====
/-
  One trip of the kernel's decoding loop, run once at a symbolic trip `k`.

  A trip decodes eight fields of the packed words for 128 output rows and stores 32 blocks of 16 by 128 weights
  (eight fields times four pairs of components) into the weight scratch `arg10`. It reads the scales (`arg3`), the
  biases (`arg4`), the two codebook tables (`arg5`, `arg6`) and the transposed words (`arg9`), and changes none of
  them. The run goes through the printed region part by part.
-/
module

public import proofs.«01_k».proof.Proof.Gen.Kernel.Loops
public import proofs.«01_k».proof.Proof.Gen.Kernel.Frame

@[expose] public section

noncomputable section

namespace Cert.Kernel.Decode

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-! ## Where a trip stores -/

/-- The first row and the first lane of the 16 by 128 block that trip `k` stores for field `r` and component pair `w`. -/
theorem off4_eq : ∀ (k : Fin k0_t1_loop.trips) (r : Fin 8) (w : Fin 4),
    k0_off4 k (BitVec.ofNat 32 r.val) (BitVec.ofNat 32 (16 * w.val)) = ![(k.val % 8) * 512 + r.val * 64 + 16 * w.val, (k.val / 8) * 128] := by
  decide +kernel

/-- A field's number within its group of eight. -/
class IsField (r : ℕ) : Prop where
  lt : r < 8
/-- The row offset, within a field's 64 rows, of one of the four component pairs. -/
class IsPairRow (v : ℕ) : Prop where
  lt : v < 64
  dvd : v % 16 = 0

/-- 0 is one of the fields of a period. -/
instance : IsField 0 := ⟨by decide⟩
/-- 1 is one of the fields of a period. -/
instance : IsField 1 := ⟨by decide⟩
/-- 2 is one of the fields of a period. -/
instance : IsField 2 := ⟨by decide⟩
/-- 3 is one of the fields of a period. -/
instance : IsField 3 := ⟨by decide⟩
/-- 4 is one of the fields of a period. -/
instance : IsField 4 := ⟨by decide⟩
/-- 5 is one of the fields of a period. -/
instance : IsField 5 := ⟨by decide⟩
/-- 6 is one of the fields of a period. -/
instance : IsField 6 := ⟨by decide⟩
/-- 7 is one of the fields of a period. -/
instance : IsField 7 := ⟨by decide⟩
/-- 0 is one of the rows of a pair. -/
instance : IsPairRow 0 := ⟨by decide, by decide⟩
/-- 16 is one of the rows of a pair. -/
instance : IsPairRow 16 := ⟨by decide, by decide⟩
/-- 32 is one of the rows of a pair. -/
instance : IsPairRow 32 := ⟨by decide, by decide⟩
/-- 48 is one of the rows of a pair. -/
instance : IsPairRow 48 := ⟨by decide, by decide⟩

/-- The closed form of a store's offsets, in the form the run's geometry reads. -/
instance (k : Fin k0_t1_loop.trips) (r v : ℕ) [hr : IsField r] [hv : IsPairRow v] :
    ClosedOff (k0_off4 k (BitVec.ofNat 32 r) (BitVec.ofNat 32 v)) :=
  ⟨![(k.val % 8) * 512 + r * 64 + v, (k.val / 8) * 128], by
    have h := off4_eq k ⟨r, hr.lt⟩ ⟨v / 16, by have := hv.lt; omega⟩
    have e : 16 * (v / 16) = v := by have := hv.dvd; omega
    simpa only [e] using h⟩

/-! ## The run -/

/-- The contents type of memref `M`'s buffer on core `c`. -/
abbrev Bf (c : Dev nD) {sp : Space} {S : Shape} {e : EltTy} (M : Memref sig .tc sp S e) : Type := Buf (Elt F) (M.view.loc (c : Thread nD τ))
/-- Memref `M`'s buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f

/-- One trip: what it leaves in the weight scratch (found by the run: the 32 stored blocks over what was there), and
    the proof that the trip leaves it, handing back the five buffers it reads as they were. -/
noncomputable def tripRun (c : Dev nD) (i : grid0.Coords) (arg1 : Memref sig .tc .vmem S256x319 .i32) (harg1 : arg1.IsWhole) (arg2 : Memref sig .tc .vmem S8x4160 .bf16) (harg2 : arg2.IsWhole)
    (arg3 : Memref sig .tc .vmem S4160x128 .f32) (harg3 : arg3.IsWhole) (arg4 : Memref sig .tc .vmem S4160x128 .f32) (harg4 : arg4.IsWhole)
    (arg5 : Memref sig .tc .vmem S128x128 .i32) (harg5 : arg5.IsWhole) (arg6 : Memref sig .tc .vmem S8x128 .i32) (harg6 : arg6.IsWhole)
    (arg7 : Memref sig .tc .vmem S32x128 .i32) (harg7 : arg7.IsWhole) (arg8 : Memref sig .tc .vmem S8x256 .bf16) (harg8 : arg8.IsWhole)
    (arg9 : Memref sig .tc .vmem S2x360x128 .i32) (harg9 : arg9.IsWhole) (arg10 : Memref sig .tc .vmem S4160x256 .bf16) (harg10 : arg10.IsWhole)
    (k : Fin k0_t1_loop.trips)
    (f3 : Bf (F := F) c arg3) (f4 : Bf (F := F) c arg4) (f5 : Bf (F := F) c arg5) (f6 : Bf (F := F) c arg6) (f9 : Bf (F := F) c arg9) (f10 : Bf (F := F) c arg10) :
    { W : Bf (F := F) c arg10 //
      ∀ (E : Set ℕ) (Q : Unit → sProp 𝕄),
        iprop(pt c arg3 f3 ∗ pt c arg4 f4 ∗ pt c arg5 f5 ∗ pt c arg6 f6 ∗ pt c arg9 f9 ∗ pt c arg10 f10
          ∗ (iprop(pt c arg3 f3 ∗ pt c arg4 f4 ∗ pt c arg5 f5 ∗ pt c arg6 f6 ∗ pt c arg9 f9 ∗ pt c arg10 W) -∗ Q ⟨⟩))
        ⊢ wp frame (wpE (defs₀ (F := F)) Variants.none c none) E
            (k0_t1_body i arg1 harg1 arg2 harg2 arg3 harg3 arg4 harg4 arg5 harg5 arg6 harg6 arg7 harg7 arg8 harg8 arg9 harg9 arg10 harg10 k ⟨⟩) Q } := by
  refine ⟨?_, fun E Q => ?run⟩
  case run =>
    unfold k0_t1_body
    iintro ⟨H3, H4, H5, H6, H9, H10, Hk⟩
    sl_exec_parts
    sl_step
    iapply Hk
    isplitl [H3]; · iexact H3
    isplitl [H4]; · iexact H4
    isplitl [H5]; · iexact H5
    isplitl [H6]; · iexact H6
    isplitl [H9]; · iexact H9
    iexact H10

end Cert.Kernel.Decode

end
-- ==== Proof.Kernel.Body.lean ====
/-
  The kernel body, run once: the prologue transposes the packed words into the scratch `arg9`, the decoding loop is
  gone through by its invariant (`afterTrips`: what the trips so far have left in the weight scratch), and the tail
  decodes the first, shorter group, multiplies, rounds and stores the result block.
-/
module

public import proofs.«01_k».proof.Proof.Kernel.Trip

@[expose] public section

noncomputable section

namespace Cert.Kernel.Decode

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- What the weight scratch holds before trip `n`, from `f10` at the loop's entry. -/
noncomputable def afterTrips (c : Dev nD) (i : grid0.Coords) (arg1 : Memref sig .tc .vmem S256x319 .i32) (harg1 : arg1.IsWhole) (arg2 : Memref sig .tc .vmem S8x4160 .bf16) (harg2 : arg2.IsWhole)
    (arg3 : Memref sig .tc .vmem S4160x128 .f32) (harg3 : arg3.IsWhole) (arg4 : Memref sig .tc .vmem S4160x128 .f32) (harg4 : arg4.IsWhole)
    (arg5 : Memref sig .tc .vmem S128x128 .i32) (harg5 : arg5.IsWhole) (arg6 : Memref sig .tc .vmem S8x128 .i32) (harg6 : arg6.IsWhole)
    (arg7 : Memref sig .tc .vmem S32x128 .i32) (harg7 : arg7.IsWhole) (arg8 : Memref sig .tc .vmem S8x256 .bf16) (harg8 : arg8.IsWhole)
    (arg9 : Memref sig .tc .vmem S2x360x128 .i32) (harg9 : arg9.IsWhole) (arg10 : Memref sig .tc .vmem S4160x256 .bf16) (harg10 : arg10.IsWhole)
    (f3 : Bf (F := F) c arg3) (f4 : Bf (F := F) c arg4) (f5 : Bf (F := F) c arg5) (f6 : Bf (F := F) c arg6) (f9 : Bf (F := F) c arg9) (f10 : Bf (F := F) c arg10) : ℕ → Bf (F := F) c arg10
  | 0 => f10
  | n + 1 =>
    if h : n < k0_t1_loop.trips then (tripRun c i arg1 harg1 arg2 harg2 arg3 harg3 arg4 harg4 arg5 harg5 arg6 harg6 arg7 harg7 arg8 harg8 arg9 harg9 arg10 harg10 ⟨n, h⟩ f3 f4 f5 f6 f9 (afterTrips c i arg1 harg1 arg2 harg2 arg3 harg3 arg4 harg4 arg5 harg5 arg6 harg6 arg7 harg7 arg8 harg8 arg9 harg9 arg10 harg10 f3 f4 f5 f6 f9 f10 n)).1
    else afterTrips c i arg1 harg1 arg2 harg2 arg3 harg3 arg4 harg4 arg5 harg5 arg6 harg6 arg7 harg7 arg8 harg8 arg9 harg9 arg10 harg10 f3 f4 f5 f6 f9 f10 n

/-- One more trip. -/
theorem afterTrips_succ (c : Dev nD) (i : grid0.Coords) (arg1 : Memref sig .tc .vmem S256x319 .i32) (harg1 : arg1.IsWhole) (arg2 : Memref sig .tc .vmem S8x4160 .bf16) (harg2 : arg2.IsWhole)
    (arg3 : Memref sig .tc .vmem S4160x128 .f32) (harg3 : arg3.IsWhole) (arg4 : Memref sig .tc .vmem S4160x128 .f32) (harg4 : arg4.IsWhole)
    (arg5 : Memref sig .tc .vmem S128x128 .i32) (harg5 : arg5.IsWhole) (arg6 : Memref sig .tc .vmem S8x128 .i32) (harg6 : arg6.IsWhole)
    (arg7 : Memref sig .tc .vmem S32x128 .i32) (harg7 : arg7.IsWhole) (arg8 : Memref sig .tc .vmem S8x256 .bf16) (harg8 : arg8.IsWhole)
    (arg9 : Memref sig .tc .vmem S2x360x128 .i32) (harg9 : arg9.IsWhole) (arg10 : Memref sig .tc .vmem S4160x256 .bf16) (harg10 : arg10.IsWhole)
    (f3 : Bf (F := F) c arg3) (f4 : Bf (F := F) c arg4) (f5 : Bf (F := F) c arg5) (f6 : Bf (F := F) c arg6) (f9 : Bf (F := F) c arg9) (f10 : Bf (F := F) c arg10) (k : Fin k0_t1_loop.trips) :
    afterTrips c i arg1 harg1 arg2 harg2 arg3 harg3 arg4 harg4 arg5 harg5 arg6 harg6 arg7 harg7 arg8 harg8 arg9 harg9 arg10 harg10 f3 f4 f5 f6 f9 f10 (k.val + 1)
      = (tripRun c i arg1 harg1 arg2 harg2 arg3 harg3 arg4 harg4 arg5 harg5 arg6 harg6 arg7 harg7 arg8 harg8 arg9 harg9 arg10 harg10 k f3 f4 f5 f6 f9 (afterTrips c i arg1 harg1 arg2 harg2 arg3 harg3 arg4 harg4 arg5 harg5 arg6 harg6 arg7 harg7 arg8 harg8 arg9 harg9 arg10 harg10 f3 f4 f5 f6 f9 f10 k.val)).1 := by
  obtain ⟨n, hn⟩ := k
  show (if h : n < k0_t1_loop.trips then _ else _) = _
  exact dif_pos hn

/-- The decoding loop's invariant: the five buffers it reads as they were, the weight scratch at `afterTrips`. -/
@[sl_loop, instance_reducible] noncomputable def loopInv (c : Dev nD) (i : grid0.Coords) (arg1 : Memref sig .tc .vmem S256x319 .i32) (harg1 : arg1.IsWhole) (arg2 : Memref sig .tc .vmem S8x4160 .bf16) (harg2 : arg2.IsWhole)
    (arg3 : Memref sig .tc .vmem S4160x128 .f32) (harg3 : arg3.IsWhole) (arg4 : Memref sig .tc .vmem S4160x128 .f32) (harg4 : arg4.IsWhole)
    (arg5 : Memref sig .tc .vmem S128x128 .i32) (harg5 : arg5.IsWhole) (arg6 : Memref sig .tc .vmem S8x128 .i32) (harg6 : arg6.IsWhole)
    (arg7 : Memref sig .tc .vmem S32x128 .i32) (harg7 : arg7.IsWhole) (arg8 : Memref sig .tc .vmem S8x256 .bf16) (harg8 : arg8.IsWhole)
    (arg9 : Memref sig .tc .vmem S2x360x128 .i32) (harg9 : arg9.IsWhole) (arg10 : Memref sig .tc .vmem S4160x256 .bf16) (harg10 : arg10.IsWhole)
    (f3 : Bf (F := F) c arg3) (f4 : Bf (F := F) c arg4) (f5 : Bf (F := F) c arg5) (f6 : Bf (F := F) c arg6) (f9 : Bf (F := F) c arg9) (f10 : Bf (F := F) c arg10) :
    Gen.LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 where
  inv := fun k _ => iprop(pt c arg3 f3 ∗ pt c arg4 f4 ∗ pt c arg5 f5 ∗ pt c arg6 f6 ∗ pt c arg9 f9 ∗ pt c arg10 (afterTrips c i arg1 harg1 arg2 harg2 arg3 harg3 arg4 harg4 arg5 harg5 arg6 harg6 arg7 harg7 arg8 harg8 arg9 harg9 arg10 harg10 f3 f4 f5 f6 f9 f10 k))
  step := fun k _ => by
    rw [afterTrips_succ]
    refine .trans ?_ ((tripRun c i arg1 harg1 arg2 harg2 arg3 harg3 arg4 harg4 arg5 harg5 arg6 harg6 arg7 harg7 arg8 harg8 arg9 harg9 arg10 harg10 k f3 f4 f5 f6 f9 (afterTrips c i arg1 harg1 arg2 harg2 arg3 harg3 arg4 harg4 arg5 harg5 arg6 harg6 arg7 harg7 arg8 harg8 arg9 harg9 arg10 harg10 f3 f4 f5 f6 f9 f10 k.val)).2 Set.univ _)
    iintro ⟨H3, H4, H5, H6, H9, H10⟩
    isplitl [H3]; · iexact H3
    isplitl [H4]; · iexact H4
    isplitl [H5]; · iexact H5
    isplitl [H6]; · iexact H6
    isplitl [H9]; · iexact H9
    isplitl [H10]; · iexact H10
    iintro H
    iexact H

/-- The body: what it leaves in the result block `arg8` and in the two scratches (found by the run), and the proof
    that it leaves it, handing back its seven operands as they were. -/
noncomputable def bodyRun (c : Dev nD) (i : grid0.Coords) (arg1 : Memref sig .tc .vmem S256x319 .i32) (harg1 : arg1.IsWhole) (arg2 : Memref sig .tc .vmem S8x4160 .bf16) (harg2 : arg2.IsWhole)
    (arg3 : Memref sig .tc .vmem S4160x128 .f32) (harg3 : arg3.IsWhole) (arg4 : Memref sig .tc .vmem S4160x128 .f32) (harg4 : arg4.IsWhole)
    (arg5 : Memref sig .tc .vmem S128x128 .i32) (harg5 : arg5.IsWhole) (arg6 : Memref sig .tc .vmem S8x128 .i32) (harg6 : arg6.IsWhole)
    (arg7 : Memref sig .tc .vmem S32x128 .i32) (harg7 : arg7.IsWhole) (arg8 : Memref sig .tc .vmem S8x256 .bf16) (harg8 : arg8.IsWhole)
    (arg9 : Memref sig .tc .vmem S2x360x128 .i32) (harg9 : arg9.IsWhole) (arg10 : Memref sig .tc .vmem S4160x256 .bf16) (harg10 : arg10.IsWhole)
    (f1 : Bf (F := F) c arg1) (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9) (f10 : Bf (F := F) c arg10) :
    { W : Bf (F := F) c arg8 × Bf (F := F) c arg9 × Bf (F := F) c arg10 //
      ∀ (Q : Unit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10
          ∗ (iprop(pt c arg1 f1 ∗ pt c arg2 f2 ∗ pt c arg3 f3 ∗ pt c arg4 f4 ∗ pt c arg5 f5 ∗ pt c arg6 f6 ∗ pt c arg7 f7 ∗ pt c arg8 W.1 ∗ pt c arg9 W.2.1 ∗ pt c arg10 W.2.2) -∗ Q ⟨⟩))
        ⊢ wp frame (wpE (defs₀ (F := F)) Variants.none c none) Set.univ
            (cc0_vptq_decode_linear i arg1 harg1 arg2 harg2 arg3 harg3 arg4 harg4 arg5 harg5 arg6 harg6 arg7 harg7 arg8 harg8 arg9 harg9 arg10 harg10) Q } := by
  refine ⟨(?_, ?_, ?_), fun Q => ?run⟩
  case run =>
    unfold cc0_vptq_decode_linear
    iintro ⟨H1, H2, H3, H4, H5, H6, H7, H8, H9, H10, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.Kernel.Decode

end
-- ==== Proof.Kernel.Owns.lean ====
/-
  The body's run in the terms the launch speaks: each operand memref owned at its block's values, the result block and
  the two scratches at anything. Whatever the run leaves in the result block is described by a property `P` of its values.
-/
module

public import proofs.«01_k».proof.Proof.Kernel.Body

@[expose] public section

noncomputable section

namespace Cert.Kernel.Decode

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- A whole memref owned at `x`: its buffer, whole, at the contents that read `x`. -/
theorem owns_pt (c : Dev nD) {sp : Space} {S : Shape} {e : EltTy} (M : Memref sig .tc sp S e) (h : M.IsWhole) (x : S.Idx → Elt F e) :
    (owns (c : Thread nD τ) M fullShare x : sProp 𝕄) ⊢ pt c M (h.unread x) := by
  unfold owns
  iintro ⟨%f, %hf, H⟩
  obtain rfl := h.eq_unread hf
  rw [h.set_eq_univ]
  iexact H

/-- A whole memref's buffer at `f`: the memref owned at what `f` reads. -/
theorem pt_owns (c : Dev nD) {sp : Space} {S : Shape} {e : EltTy} (M : Memref sig .tc sp S e) (h : M.IsWhole) (f : Bf (F := F) c M)
    (x : S.Idx → Elt F e) (hx : M.view.read (Elt F) f = x) :
    pt c M f ⊢ (owns (c : Thread nD τ) M fullShare x : sProp 𝕄) := by
  unfold owns
  iintro H
  iexists f
  isplitr
  · ipureintro; exact hx
  rw [h.set_eq_univ]
  iexact H

/-- The body from its operands owned at `X1 … X7`: they come back as they were, the result block at values with the
    property `P`, provided the run leaves such values whatever the result block and the scratches held. -/
theorem body_owns (c : Dev nD) (i : grid0.Coords) (arg1 : Memref sig .tc .vmem S256x319 .i32) (harg1 : arg1.IsWhole) (arg2 : Memref sig .tc .vmem S8x4160 .bf16) (harg2 : arg2.IsWhole)
    (arg3 : Memref sig .tc .vmem S4160x128 .f32) (harg3 : arg3.IsWhole) (arg4 : Memref sig .tc .vmem S4160x128 .f32) (harg4 : arg4.IsWhole)
    (arg5 : Memref sig .tc .vmem S128x128 .i32) (harg5 : arg5.IsWhole) (arg6 : Memref sig .tc .vmem S8x128 .i32) (harg6 : arg6.IsWhole)
    (arg7 : Memref sig .tc .vmem S32x128 .i32) (harg7 : arg7.IsWhole) (arg8 : Memref sig .tc .vmem S8x256 .bf16) (harg8 : arg8.IsWhole)
    (arg9 : Memref sig .tc .vmem S2x360x128 .i32) (harg9 : arg9.IsWhole) (arg10 : Memref sig .tc .vmem S4160x256 .bf16) (harg10 : arg10.IsWhole)
    (X1 : S256x319.Idx → Elt F .i32) (X2 : S8x4160.Idx → Elt F .bf16) (X3 : S4160x128.Idx → Elt F .f32) (X4 : S4160x128.Idx → Elt F .f32) (X5 : S128x128.Idx → Elt F .i32) (X6 : S8x128.Idx → Elt F .i32) (X7 : S32x128.Idx → Elt F .i32) (P : (S8x256.Idx → Elt F .bf16) → Prop)
    (hP : ∀ f8 f9 f10, P (arg8.view.read (Elt F) (bodyRun (F := F) c i arg1 harg1 arg2 harg2 arg3 harg3 arg4 harg4 arg5 harg5 arg6 harg6 arg7 harg7 arg8 harg8 arg9 harg9 arg10 harg10 (harg1.unread X1) (harg2.unread X2) (harg3.unread X3) (harg4.unread X4) (harg5.unread X5) (harg6.unread X6) (harg7.unread X7) f8 f9 f10).1.1)) (Q : Unit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
        ∗ (∃ X8, owns (c : Thread nD τ) arg8 fullShare X8) ∗ (∃ f9, pt (F := F) c arg9 f9) ∗ (∃ f10, pt (F := F) c arg10 f10)
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
            ∗ (∃ X8, ⌜P X8⌝ ∗ owns (c : Thread nD τ) arg8 fullShare X8) ∗ (∃ f9, pt (F := F) c arg9 f9) ∗ (∃ f10, pt (F := F) c arg10 f10)) -∗ Q ⟨⟩))
      ⊢ wp frame (wpE (defs₀ (F := F)) Variants.none c none) Set.univ
          (cc0_vptq_decode_linear i arg1 harg1 arg2 harg2 arg3 harg3 arg4 harg4 arg5 harg5 arg6 harg6 arg7 harg7 arg8 harg8 arg9 harg9 arg10 harg10) Q := by
  rw [show (iprop(∃ X8, owns (c : Thread nD τ) arg8 fullShare X8) : sProp 𝕄) = iprop(∃ f8, pt (F := F) c arg8 f8) from harg8.exists_owns_eq fullShare]
  refine (BIClass.sep_mono (owns_pt c arg1 harg1 X1) (BIClass.sep_mono (owns_pt c arg2 harg2 X2) (BIClass.sep_mono (owns_pt c arg3 harg3 X3)
    (BIClass.sep_mono (owns_pt c arg4 harg4 X4) (BIClass.sep_mono (owns_pt c arg5 harg5 X5) (BIClass.sep_mono (owns_pt c arg6 harg6 X6)
      (BIClass.sep_mono (owns_pt c arg7 harg7 X7) .rfl))))))).trans ?_
  iintro ⟨H1, H2, H3, H4, H5, H6, H7, ⟨%f8, H8⟩, ⟨%f9, H9⟩, ⟨%f10, H10⟩, Hk⟩
  iapply ((bodyRun (F := F) c i arg1 harg1 arg2 harg2 arg3 harg3 arg4 harg4 arg5 harg5 arg6 harg6 arg7 harg7 arg8 harg8 arg9 harg9 arg10 harg10 (harg1.unread X1) (harg2.unread X2) (harg3.unread X3) (harg4.unread X4) (harg5.unread X5) (harg6.unread X6) (harg7.unread X7) f8 f9 f10).2 Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H1, H2, H3, H4, H5, H6, H7, H8, H9, H10⟩
  iapply Hk
  isplitl [H1]; · iapply (pt_owns c arg1 harg1 _ X1 (harg1.read_unread X1)); iexact H1
  isplitl [H2]; · iapply (pt_owns c arg2 harg2 _ X2 (harg2.read_unread X2)); iexact H2
  isplitl [H3]; · iapply (pt_owns c arg3 harg3 _ X3 (harg3.read_unread X3)); iexact H3
  isplitl [H4]; · iapply (pt_owns c arg4 harg4 _ X4 (harg4.read_unread X4)); iexact H4
  isplitl [H5]; · iapply (pt_owns c arg5 harg5 _ X5 (harg5.read_unread X5)); iexact H5
  isplitl [H6]; · iapply (pt_owns c arg6 harg6 _ X6 (harg6.read_unread X6)); iexact H6
  isplitl [H7]; · iapply (pt_owns c arg7 harg7 _ X7 (harg7.read_unread X7)); iexact H7
  isplitl [H8]
  · iexists _
    isplitr
    · ipureintro; exact hP f8 f9 f10
    iapply (pt_owns c arg8 harg8 _ _ rfl); iexact H8
  isplitl [H9]
  · iexists _; iexact H9
  iexists _; iexact H10

end Cert.Kernel.Decode

end
-- ==== Proof.Kernel.Launch.lean ====
/-
  The launch: the body's obligation at every grid point and the run of @main from any memory. The result window is
  forgotten here: nothing in this module reads what the kernel writes.
-/
module

public import proofs.«01_k».proof.Proof.Kernel.Owns
public import Idealize.ShloMosaic.Lib.Pipeline.FrameSuffix

@[expose] public section

noncomputable section

namespace Cert.Kernel.Decode

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The result window alone is forgotten. -/
def forgets : Fin 8 → Bool := fun w => w.val == 7

/-- The proof data on core `c`: every input window's staging buffer keeps its block, the result's contents are unnamed,
    the two scratches and the generator register are held at anything between points. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => Pipeline.Dat.unnamed (cfg := cfg0) 7 t
  Φ _ := Pipeline.ΦA spec0 c
  q _ := fullShare
  owed _ := 0

/-- Every window's array starts at what the launch finds in it. -/
theorem A_eq (c : Dev nD) (w : Fin cfg0.W) : (dats m 0 c).A w = V m c (Pipeline.arrRef spec0 w) := by dsimp only [dats]
/-- The body leaves the block of the words as it was. -/
theorem after_0 (c : Dev nD) (t : Fin cfg0.N) : (dats m 0 c).after 0 t = iblk m c 0 t := by dsimp only [dats]
/-- The body finds the block of the words in its staging buffer. -/
theorem before_0 (c : Dev nD) (t : Fin cfg0.N) (d) : (dats m 0 c).before 0 t d = iblk m c 0 t :=
  before0_0_of m (dats m 0 c) (A_eq m c 0) (fun _ => by dsimp only [dats]) t d
/-- The body leaves the block of the activations as it was. -/
theorem after_1 (c : Dev nD) (t : Fin cfg0.N) : (dats m 0 c).after 1 t = iblk m c 1 t := by dsimp only [dats]
/-- The body finds the block of the activations in its staging buffer. -/
theorem before_1 (c : Dev nD) (t : Fin cfg0.N) (d) : (dats m 0 c).before 1 t d = iblk m c 1 t :=
  before0_1_of m (dats m 0 c) (A_eq m c 1) (fun _ => by dsimp only [dats]) t d
/-- The body leaves the block of the scales as it was. -/
theorem after_2 (c : Dev nD) (t : Fin cfg0.N) : (dats m 0 c).after 2 t = iblk m c 2 t := by dsimp only [dats]
/-- The body finds the block of the scales in its staging buffer. -/
theorem before_2 (c : Dev nD) (t : Fin cfg0.N) (d) : (dats m 0 c).before 2 t d = iblk m c 2 t :=
  before0_2_of m (dats m 0 c) (A_eq m c 2) (fun _ => by dsimp only [dats]) t d
/-- The body leaves the block of the biases as it was. -/
theorem after_3 (c : Dev nD) (t : Fin cfg0.N) : (dats m 0 c).after 3 t = iblk m c 3 t := by dsimp only [dats]
/-- The body finds the block of the biases in its staging buffer. -/
theorem before_3 (c : Dev nD) (t : Fin cfg0.N) (d) : (dats m 0 c).before 3 t d = iblk m c 3 t :=
  before0_3_of m (dats m 0 c) (A_eq m c 3) (fun _ => by dsimp only [dats]) t d
/-- The body leaves the block of the main codebook as it was. -/
theorem after_4 (c : Dev nD) (t : Fin cfg0.N) : (dats m 0 c).after 4 t = iblk m c 4 t := by dsimp only [dats]
/-- The body finds the block of the main codebook in its staging buffer. -/
theorem before_4 (c : Dev nD) (t : Fin cfg0.N) (d) : (dats m 0 c).before 4 t d = iblk m c 4 t :=
  before0_4_of m (dats m 0 c) (A_eq m c 4) (fun _ => by dsimp only [dats]) t d
/-- The body leaves the block of the residual codebook as it was. -/
theorem after_5 (c : Dev nD) (t : Fin cfg0.N) : (dats m 0 c).after 5 t = iblk m c 5 t := by dsimp only [dats]
/-- The body finds the block of the residual codebook in its staging buffer. -/
theorem before_5 (c : Dev nD) (t : Fin cfg0.N) (d) : (dats m 0 c).before 5 t d = iblk m c 5 t :=
  before0_5_of m (dats m 0 c) (A_eq m c 5) (fun _ => by dsimp only [dats]) t d
/-- The body leaves the block of the outlier codebook as it was. -/
theorem after_6 (c : Dev nD) (t : Fin cfg0.N) : (dats m 0 c).after 6 t = iblk m c 6 t := by dsimp only [dats]
/-- The body finds the block of the outlier codebook in its staging buffer. -/
theorem before_6 (c : Dev nD) (t : Fin cfg0.N) (d) : (dats m 0 c).before 6 t d = iblk m c 6 t :=
  before0_6_of m (dats m 0 c) (A_eq m c 6) (fun _ => by dsimp only [dats]) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d))
    ∗ (∃ X, owns (c : Thread nD τ) (st0_7 t) fullShare X))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t)
    ∗ (∃ X, owns (c : Thread nD τ) (st0_7 t) fullShare X))

/-- The two scratches of the invariant, as the body's memrefs. -/
theorem scratch_eq (c : Dev nD) :
    (Pipeline.ΦA spec0 c : sProp 𝕄)
      = iprop(iprop((∃ f9, pt (F := F) c (Memref.whole cc0_scratch0) f9) ∗ (∃ f10, pt (F := F) c (Memref.whole cc0_scratch1) f10)) ∗ (∃ r, prngReg c r)) := by
  unfold Pipeline.ΦA
  rw [scopedRest0_eq c]

/-- The body at a point: the inputs' staging buffers at their blocks, the run, everything handed back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl, scratch_eq]
  simp only [before_0 m c t, after_0 m c t, before_1 m c t, after_1 m c t, before_2 m c t, after_2 m c t, before_3 m c t, after_3 m c t, before_4 m c t, after_4 m c t, before_5 m c t, after_5 m c t, before_6 m c t, after_6 m c t]
  iintro ⟨⟨⟨H9, H10⟩, Hg⟩, HO, ⟨%d0, H0⟩, ⟨%d1, H1⟩, ⟨%d2, H2⟩, ⟨%d3, H3⟩, ⟨%d4, H4⟩, ⟨%d5, H5⟩, ⟨%d6, H6⟩, H7⟩
  iapply (body_owns c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (fun _ => True) (fun _ _ _ => trivial) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  iintro ⟨H0, H1, H2, H3, H4, H5, H6, ⟨%X8, -, H7⟩, H9, H10⟩
  isplitl [H9 H10 Hg]
  · isplitl [H9 H10]
    · isplitl [H9]; · iexact H9
      iexact H10
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexists X8; iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The obligation of the launch theorem. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-- The buffers the lines after the region write. -/
abbrev tailBufs : Finset (Ref sig .tc) := {main_v58, main_v59}

/-- The lines after the region write those buffers only. -/
theorem tail_writes : ∀ ops ∈ ([hostOps1] : List (List (HloOp τ sig (Elt F)))), ∀ op ∈ ops, ∀ b : Ref sig .tc,
    Proc.devRef .tc b ∈ op.writes → b ∈ tailBufs := by
  intro ops ho
  obtain rfl := List.mem_singleton.mp ho
  refine List.forall_iff_forall_mem.mp ?_
  simp only [hostOps1, List.Forall, StableHlo.unary_writes, StableHlo.reshape_writes, Finset.mem_singleton]
  refine ⟨fun b hb => ?_, fun b hb => ?_⟩
  · rw [Proc.devRef_injective _ hb]; decide
  · rw [Proc.devRef_injective _ hb]; decide

set_option backward.isDefEq.respectTransparency.types false in
/-- From any memory with zero counters every weakly fair execution of @main terminates, with every counter at zero, the
    input arrays and every buffer outside the tail at their contents before the region. -/
theorem run_main :
    θ_run defs (onTc (τ := τ) (main (F := F))) (s₀ m ρ)
      (fun r => Pipeline.RDat.FramePostR (cfgs 0) (fun c => (dats m 0 c).toRForget forgets) tailBufs (fun c b => V0 m c (Proc.devRef .tc b)) r
        ∧ r.2.sem = fun _ => 0) :=
  Pipeline.θ_run_frame_around_T_forget (Q' := _) cfgs (dats m) (0 : Fin 1) launch0 defs₀ Variants.none forgets tailBufs m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The run of @main leaves every argument array as it was and every counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
      ((h.1 c).2 main_arg0 (Finset.mem_sdiff.mpr ⟨Pipeline.mem_restRefs_of main_arg0 (by decide) (by decide), by decide⟩)).trans (V_main_arg0 m c),
      (Pipeline.RDat.FramePostR.arr_in h.1 c 0 rfl).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c)⟩, h.2⟩) (run_main m ρ)

end Cert.Kernel.Decode

end
-- ==== Proof.KernelIdeal.Trip.lean ====
/-
  One trip of the kernel's decoding loop, run once at a symbolic trip `k`.

  A trip decodes eight fields of the packed words for 128 output rows and stores 32 blocks of 16 by 128 weights
  (eight fields times four pairs of components) into the weight scratch `arg10`. It reads the scales (`arg3`), the
  biases (`arg4`), the two codebook tables (`arg5`, `arg6`) and the transposed words (`arg9`), and changes none of
  them. The run goes through the printed region part by part.
-/
module

public import proofs.«01_k».proof.Proof.Gen.KernelIdeal.Loops
public import proofs.«01_k».proof.Proof.Gen.KernelIdeal.Frame

@[expose] public section

noncomputable section

namespace Cert.KernelIdeal.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Where a trip stores -/

/-- The first row and the first lane of the 16 by 128 block that trip `k` stores for field `r` and component pair `w`. -/
theorem off4_eq : ∀ (k : Fin k0_t1_loop.trips) (r : Fin 8) (w : Fin 4),
    k0_off4 k (BitVec.ofNat 32 r.val) (BitVec.ofNat 32 (16 * w.val)) = ![(k.val % 8) * 512 + r.val * 64 + 16 * w.val, (k.val / 8) * 128] := by
  decide +kernel

/-- A field's number within its group of eight. -/
class IsField (r : ℕ) : Prop where
  lt : r < 8
/-- The row offset, within a field's 64 rows, of one of the four component pairs. -/
class IsPairRow (v : ℕ) : Prop where
  lt : v < 64
  dvd : v % 16 = 0

/-- 0 is one of the fields of a period. -/
instance : IsField 0 := ⟨by decide⟩
/-- 1 is one of the fields of a period. -/
instance : IsField 1 := ⟨by decide⟩
/-- 2 is one of the fields of a period. -/
instance : IsField 2 := ⟨by decide⟩
/-- 3 is one of the fields of a period. -/
instance : IsField 3 := ⟨by decide⟩
/-- 4 is one of the fields of a period. -/
instance : IsField 4 := ⟨by decide⟩
/-- 5 is one of the fields of a period. -/
instance : IsField 5 := ⟨by decide⟩
/-- 6 is one of the fields of a period. -/
instance : IsField 6 := ⟨by decide⟩
/-- 7 is one of the fields of a period. -/
instance : IsField 7 := ⟨by decide⟩
/-- 0 is one of the rows of a pair. -/
instance : IsPairRow 0 := ⟨by decide, by decide⟩
/-- 16 is one of the rows of a pair. -/
instance : IsPairRow 16 := ⟨by decide, by decide⟩
/-- 32 is one of the rows of a pair. -/
instance : IsPairRow 32 := ⟨by decide, by decide⟩
/-- 48 is one of the rows of a pair. -/
instance : IsPairRow 48 := ⟨by decide, by decide⟩

/-- The closed form of a store's offsets, in the form the run's geometry reads. -/
instance (k : Fin k0_t1_loop.trips) (r v : ℕ) [hr : IsField r] [hv : IsPairRow v] :
    ClosedOff (k0_off4 k (BitVec.ofNat 32 r) (BitVec.ofNat 32 v)) :=
  ⟨![(k.val % 8) * 512 + r * 64 + v, (k.val / 8) * 128], by
    have h := off4_eq k ⟨r, hr.lt⟩ ⟨v / 16, by have := hv.lt; omega⟩
    have e : 16 * (v / 16) = v := by have := hv.dvd; omega
    simpa only [e] using h⟩

/-! ## The run -/

/-- The contents type of memref `M`'s buffer on core `c`. -/
abbrev Bf (c : Dev nD) {sp : Space} {S : Shape} {e : EltTy} (M : Memref sig .tc sp S e) : Type := Buf (Elt F) (M.view.loc (c : Thread nD τ))
/-- Memref `M`'s buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f

/-- One trip: what it leaves in the weight scratch (found by the run: the 32 stored blocks over what was there), and
    the proof that the trip leaves it, handing back the five buffers it reads as they were. -/
noncomputable def tripRun (c : Dev nD) (i : grid0.Coords) (arg1 : Memref sig .tc .vmem S256x319 .i32) (harg1 : arg1.IsWhole) (arg2 : Memref sig .tc .vmem S8x4160 .bf16) (harg2 : arg2.IsWhole)
    (arg3 : Memref sig .tc .vmem S4160x128 .f32) (harg3 : arg3.IsWhole) (arg4 : Memref sig .tc .vmem S4160x128 .f32) (harg4 : arg4.IsWhole)
    (arg5 : Memref sig .tc .vmem S128x128 .i32) (harg5 : arg5.IsWhole) (arg6 : Memref sig .tc .vmem S8x128 .i32) (harg6 : arg6.IsWhole)
    (arg7 : Memref sig .tc .vmem S32x128 .i32) (harg7 : arg7.IsWhole) (arg8 : Memref sig .tc .vmem S8x256 .bf16) (harg8 : arg8.IsWhole)
    (arg9 : Memref sig .tc .vmem S2x360x128 .i32) (harg9 : arg9.IsWhole) (arg10 : Memref sig .tc .vmem S4160x256 .bf16) (harg10 : arg10.IsWhole)
    (k : Fin k0_t1_loop.trips)
    (f3 : Bf (F := F) c arg3) (f4 : Bf (F := F) c arg4) (f5 : Bf (F := F) c arg5) (f6 : Bf (F := F) c arg6) (f9 : Bf (F := F) c arg9) (f10 : Bf (F := F) c arg10) :
    { W : Bf (F := F) c arg10 //
      ∀ (E : Set ℕ) (Q : Unit → sProp 𝕄),
        iprop(pt c arg3 f3 ∗ pt c arg4 f4 ∗ pt c arg5 f5 ∗ pt c arg6 f6 ∗ pt c arg9 f9 ∗ pt c arg10 f10
          ∗ (iprop(pt c arg3 f3 ∗ pt c arg4 f4 ∗ pt c arg5 f5 ∗ pt c arg6 f6 ∗ pt c arg9 f9 ∗ pt c arg10 W) -∗ Q ⟨⟩))
        ⊢ wp frame (wpE (defs₀ (F := F)) Variants.none c none) E
            (k0_t1_body i arg1 harg1 arg2 harg2 arg3 harg3 arg4 harg4 arg5 harg5 arg6 harg6 arg7 harg7 arg8 harg8 arg9 harg9 arg10 harg10 k ⟨⟩) Q } := by
  refine ⟨?_, fun E Q => ?run⟩
  case run =>
    unfold k0_t1_body
    iintro ⟨H3, H4, H5, H6, H9, H10, Hk⟩
    sl_exec_parts
    sl_step
    iapply Hk
    isplitl [H3]; · iexact H3
    isplitl [H4]; · iexact H4
    isplitl [H5]; · iexact H5
    isplitl [H6]; · iexact H6
    isplitl [H9]; · iexact H9
    iexact H10

end Cert.KernelIdeal.Decode

end
-- ==== Proof.KernelIdeal.Body.lean ====
/-
  The kernel body, run once: the prologue transposes the packed words into the scratch `arg9`, the decoding loop is
  gone through by its invariant (`afterTrips`: what the trips so far have left in the weight scratch), and the tail
  decodes the first, shorter group, multiplies, rounds and stores the result block.
-/
module

public import proofs.«01_k».proof.Proof.KernelIdeal.Trip

@[expose] public section

noncomputable section

namespace Cert.KernelIdeal.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the weight scratch holds before trip `n`, from `f10` at the loop's entry. -/
noncomputable def afterTrips (c : Dev nD) (i : grid0.Coords) (arg1 : Memref sig .tc .vmem S256x319 .i32) (harg1 : arg1.IsWhole) (arg2 : Memref sig .tc .vmem S8x4160 .bf16) (harg2 : arg2.IsWhole)
    (arg3 : Memref sig .tc .vmem S4160x128 .f32) (harg3 : arg3.IsWhole) (arg4 : Memref sig .tc .vmem S4160x128 .f32) (harg4 : arg4.IsWhole)
    (arg5 : Memref sig .tc .vmem S128x128 .i32) (harg5 : arg5.IsWhole) (arg6 : Memref sig .tc .vmem S8x128 .i32) (harg6 : arg6.IsWhole)
    (arg7 : Memref sig .tc .vmem S32x128 .i32) (harg7 : arg7.IsWhole) (arg8 : Memref sig .tc .vmem S8x256 .bf16) (harg8 : arg8.IsWhole)
    (arg9 : Memref sig .tc .vmem S2x360x128 .i32) (harg9 : arg9.IsWhole) (arg10 : Memref sig .tc .vmem S4160x256 .bf16) (harg10 : arg10.IsWhole)
    (f3 : Bf (F := F) c arg3) (f4 : Bf (F := F) c arg4) (f5 : Bf (F := F) c arg5) (f6 : Bf (F := F) c arg6) (f9 : Bf (F := F) c arg9) (f10 : Bf (F := F) c arg10) : ℕ → Bf (F := F) c arg10
  | 0 => f10
  | n + 1 =>
    if h : n < k0_t1_loop.trips then (tripRun c i arg1 harg1 arg2 harg2 arg3 harg3 arg4 harg4 arg5 harg5 arg6 harg6 arg7 harg7 arg8 harg8 arg9 harg9 arg10 harg10 ⟨n, h⟩ f3 f4 f5 f6 f9 (afterTrips c i arg1 harg1 arg2 harg2 arg3 harg3 arg4 harg4 arg5 harg5 arg6 harg6 arg7 harg7 arg8 harg8 arg9 harg9 arg10 harg10 f3 f4 f5 f6 f9 f10 n)).1
    else afterTrips c i arg1 harg1 arg2 harg2 arg3 harg3 arg4 harg4 arg5 harg5 arg6 harg6 arg7 harg7 arg8 harg8 arg9 harg9 arg10 harg10 f3 f4 f5 f6 f9 f10 n

/-- One more trip. -/
theorem afterTrips_succ (c : Dev nD) (i : grid0.Coords) (arg1 : Memref sig .tc .vmem S256x319 .i32) (harg1 : arg1.IsWhole) (arg2 : Memref sig .tc .vmem S8x4160 .bf16) (harg2 : arg2.IsWhole)
    (arg3 : Memref sig .tc .vmem S4160x128 .f32) (harg3 : arg3.IsWhole) (arg4 : Memref sig .tc .vmem S4160x128 .f32) (harg4 : arg4.IsWhole)
    (arg5 : Memref sig .tc .vmem S128x128 .i32) (harg5 : arg5.IsWhole) (arg6 : Memref sig .tc .vmem S8x128 .i32) (harg6 : arg6.IsWhole)
    (arg7 : Memref sig .tc .vmem S32x128 .i32) (harg7 : arg7.IsWhole) (arg8 : Memref sig .tc .vmem S8x256 .bf16) (harg8 : arg8.IsWhole)
    (arg9 : Memref sig .tc .vmem S2x360x128 .i32) (harg9 : arg9.IsWhole) (arg10 : Memref sig .tc .vmem S4160x256 .bf16) (harg10 : arg10.IsWhole)
    (f3 : Bf (F := F) c arg3) (f4 : Bf (F := F) c arg4) (f5 : Bf (F := F) c arg5) (f6 : Bf (F := F) c arg6) (f9 : Bf (F := F) c arg9) (f10 : Bf (F := F) c arg10) (k : Fin k0_t1_loop.trips) :
    afterTrips c i arg1 harg1 arg2 harg2 arg3 harg3 arg4 harg4 arg5 harg5 arg6 harg6 arg7 harg7 arg8 harg8 arg9 harg9 arg10 harg10 f3 f4 f5 f6 f9 f10 (k.val + 1)
      = (tripRun c i arg1 harg1 arg2 harg2 arg3 harg3 arg4 harg4 arg5 harg5 arg6 harg6 arg7 harg7 arg8 harg8 arg9 harg9 arg10 harg10 k f3 f4 f5 f6 f9 (afterTrips c i arg1 harg1 arg2 harg2 arg3 harg3 arg4 harg4 arg5 harg5 arg6 harg6 arg7 harg7 arg8 harg8 arg9 harg9 arg10 harg10 f3 f4 f5 f6 f9 f10 k.val)).1 := by
  obtain ⟨n, hn⟩ := k
  show (if h : n < k0_t1_loop.trips then _ else _) = _
  exact dif_pos hn

/-- The decoding loop's invariant: the five buffers it reads as they were, the weight scratch at `afterTrips`. -/
@[sl_loop, instance_reducible] noncomputable def loopInv (c : Dev nD) (i : grid0.Coords) (arg1 : Memref sig .tc .vmem S256x319 .i32) (harg1 : arg1.IsWhole) (arg2 : Memref sig .tc .vmem S8x4160 .bf16) (harg2 : arg2.IsWhole)
    (arg3 : Memref sig .tc .vmem S4160x128 .f32) (harg3 : arg3.IsWhole) (arg4 : Memref sig .tc .vmem S4160x128 .f32) (harg4 : arg4.IsWhole)
    (arg5 : Memref sig .tc .vmem S128x128 .i32) (harg5 : arg5.IsWhole) (arg6 : Memref sig .tc .vmem S8x128 .i32) (harg6 : arg6.IsWhole)
    (arg7 : Memref sig .tc .vmem S32x128 .i32) (harg7 : arg7.IsWhole) (arg8 : Memref sig .tc .vmem S8x256 .bf16) (harg8 : arg8.IsWhole)
    (arg9 : Memref sig .tc .vmem S2x360x128 .i32) (harg9 : arg9.IsWhole) (arg10 : Memref sig .tc .vmem S4160x256 .bf16) (harg10 : arg10.IsWhole)
    (f3 : Bf (F := F) c arg3) (f4 : Bf (F := F) c arg4) (f5 : Bf (F := F) c arg5) (f6 : Bf (F := F) c arg6) (f9 : Bf (F := F) c arg9) (f10 : Bf (F := F) c arg10) :
    Gen.LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 where
  inv := fun k _ => iprop(pt c arg3 f3 ∗ pt c arg4 f4 ∗ pt c arg5 f5 ∗ pt c arg6 f6 ∗ pt c arg9 f9 ∗ pt c arg10 (afterTrips c i arg1 harg1 arg2 harg2 arg3 harg3 arg4 harg4 arg5 harg5 arg6 harg6 arg7 harg7 arg8 harg8 arg9 harg9 arg10 harg10 f3 f4 f5 f6 f9 f10 k))
  step := fun k _ => by
    rw [afterTrips_succ]
    refine .trans ?_ ((tripRun c i arg1 harg1 arg2 harg2 arg3 harg3 arg4 harg4 arg5 harg5 arg6 harg6 arg7 harg7 arg8 harg8 arg9 harg9 arg10 harg10 k f3 f4 f5 f6 f9 (afterTrips c i arg1 harg1 arg2 harg2 arg3 harg3 arg4 harg4 arg5 harg5 arg6 harg6 arg7 harg7 arg8 harg8 arg9 harg9 arg10 harg10 f3 f4 f5 f6 f9 f10 k.val)).2 Set.univ _)
    iintro ⟨H3, H4, H5, H6, H9, H10⟩
    isplitl [H3]; · iexact H3
    isplitl [H4]; · iexact H4
    isplitl [H5]; · iexact H5
    isplitl [H6]; · iexact H6
    isplitl [H9]; · iexact H9
    isplitl [H10]; · iexact H10
    iintro H
    iexact H

/-- The body: what it leaves in the result block `arg8` and in the two scratches (found by the run), and the proof
    that it leaves it, handing back its seven operands as they were. -/
noncomputable def bodyRun (c : Dev nD) (i : grid0.Coords) (arg1 : Memref sig .tc .vmem S256x319 .i32) (harg1 : arg1.IsWhole) (arg2 : Memref sig .tc .vmem S8x4160 .bf16) (harg2 : arg2.IsWhole)
    (arg3 : Memref sig .tc .vmem S4160x128 .f32) (harg3 : arg3.IsWhole) (arg4 : Memref sig .tc .vmem S4160x128 .f32) (harg4 : arg4.IsWhole)
    (arg5 : Memref sig .tc .vmem S128x128 .i32) (harg5 : arg5.IsWhole) (arg6 : Memref sig .tc .vmem S8x128 .i32) (harg6 : arg6.IsWhole)
    (arg7 : Memref sig .tc .vmem S32x128 .i32) (harg7 : arg7.IsWhole) (arg8 : Memref sig .tc .vmem S8x256 .bf16) (harg8 : arg8.IsWhole)
    (arg9 : Memref sig .tc .vmem S2x360x128 .i32) (harg9 : arg9.IsWhole) (arg10 : Memref sig .tc .vmem S4160x256 .bf16) (harg10 : arg10.IsWhole)
    (f1 : Bf (F := F) c arg1) (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9) (f10 : Bf (F := F) c arg10) :
    { W : Bf (F := F) c arg8 × Bf (F := F) c arg9 × Bf (F := F) c arg10 //
      ∀ (Q : Unit → sProp 𝕄),
        iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10
          ∗ (iprop(pt c arg1 f1 ∗ pt c arg2 f2 ∗ pt c arg3 f3 ∗ pt c arg4 f4 ∗ pt c arg5 f5 ∗ pt c arg6 f6 ∗ pt c arg7 f7 ∗ pt c arg8 W.1 ∗ pt c arg9 W.2.1 ∗ pt c arg10 W.2.2) -∗ Q ⟨⟩))
        ⊢ wp frame (wpE (defs₀ (F := F)) Variants.none c none) Set.univ
            (cc0_vptq_decode_linear i arg1 harg1 arg2 harg2 arg3 harg3 arg4 harg4 arg5 harg5 arg6 harg6 arg7 harg7 arg8 harg8 arg9 harg9 arg10 harg10) Q } := by
  refine ⟨(?_, ?_, ?_), fun Q => ?run⟩
  case run =>
    unfold cc0_vptq_decode_linear
    iintro ⟨H1, H2, H3, H4, H5, H6, H7, H8, H9, H10, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.KernelIdeal.Decode

end
-- ==== Proof.KernelIdeal.Owns.lean ====
/-
  The body's run in the terms the launch speaks: each operand memref owned at its block's values, the result block and
  the two scratches at anything. Whatever the run leaves in the result block is described by a property `P` of its values.
-/
module

public import proofs.«01_k».proof.Proof.KernelIdeal.Body

@[expose] public section

noncomputable section

namespace Cert.KernelIdeal.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A whole memref owned at `x`: its buffer, whole, at the contents that read `x`. -/
theorem owns_pt (c : Dev nD) {sp : Space} {S : Shape} {e : EltTy} (M : Memref sig .tc sp S e) (h : M.IsWhole) (x : S.Idx → Elt F e) :
    (owns (c : Thread nD τ) M fullShare x : sProp 𝕄) ⊢ pt c M (h.unread x) := by
  unfold owns
  iintro ⟨%f, %hf, H⟩
  obtain rfl := h.eq_unread hf
  rw [h.set_eq_univ]
  iexact H

/-- A whole memref's buffer at `f`: the memref owned at what `f` reads. -/
theorem pt_owns (c : Dev nD) {sp : Space} {S : Shape} {e : EltTy} (M : Memref sig .tc sp S e) (h : M.IsWhole) (f : Bf (F := F) c M)
    (x : S.Idx → Elt F e) (hx : M.view.read (Elt F) f = x) :
    pt c M f ⊢ (owns (c : Thread nD τ) M fullShare x : sProp 𝕄) := by
  unfold owns
  iintro H
  iexists f
  isplitr
  · ipureintro; exact hx
  rw [h.set_eq_univ]
  iexact H

/-- The body from its operands owned at `X1 … X7`: they come back as they were, the result block at values with the
    property `P`, provided the run leaves such values whatever the result block and the scratches held. -/
theorem body_owns (c : Dev nD) (i : grid0.Coords) (arg1 : Memref sig .tc .vmem S256x319 .i32) (harg1 : arg1.IsWhole) (arg2 : Memref sig .tc .vmem S8x4160 .bf16) (harg2 : arg2.IsWhole)
    (arg3 : Memref sig .tc .vmem S4160x128 .f32) (harg3 : arg3.IsWhole) (arg4 : Memref sig .tc .vmem S4160x128 .f32) (harg4 : arg4.IsWhole)
    (arg5 : Memref sig .tc .vmem S128x128 .i32) (harg5 : arg5.IsWhole) (arg6 : Memref sig .tc .vmem S8x128 .i32) (harg6 : arg6.IsWhole)
    (arg7 : Memref sig .tc .vmem S32x128 .i32) (harg7 : arg7.IsWhole) (arg8 : Memref sig .tc .vmem S8x256 .bf16) (harg8 : arg8.IsWhole)
    (arg9 : Memref sig .tc .vmem S2x360x128 .i32) (harg9 : arg9.IsWhole) (arg10 : Memref sig .tc .vmem S4160x256 .bf16) (harg10 : arg10.IsWhole)
    (X1 : S256x319.Idx → Elt F .i32) (X2 : S8x4160.Idx → Elt F .bf16) (X3 : S4160x128.Idx → Elt F .f32) (X4 : S4160x128.Idx → Elt F .f32) (X5 : S128x128.Idx → Elt F .i32) (X6 : S8x128.Idx → Elt F .i32) (X7 : S32x128.Idx → Elt F .i32) (P : (S8x256.Idx → Elt F .bf16) → Prop)
    (hP : ∀ f8 f9 f10, P (arg8.view.read (Elt F) (bodyRun (F := F) c i arg1 harg1 arg2 harg2 arg3 harg3 arg4 harg4 arg5 harg5 arg6 harg6 arg7 harg7 arg8 harg8 arg9 harg9 arg10 harg10 (harg1.unread X1) (harg2.unread X2) (harg3.unread X3) (harg4.unread X4) (harg5.unread X5) (harg6.unread X6) (harg7.unread X7) f8 f9 f10).1.1)) (Q : Unit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
        ∗ (∃ X8, owns (c : Thread nD τ) arg8 fullShare X8) ∗ (∃ f9, pt (F := F) c arg9 f9) ∗ (∃ f10, pt (F := F) c arg10 f10)
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7
            ∗ (∃ X8, ⌜P X8⌝ ∗ owns (c : Thread nD τ) arg8 fullShare X8) ∗ (∃ f9, pt (F := F) c arg9 f9) ∗ (∃ f10, pt (F := F) c arg10 f10)) -∗ Q ⟨⟩))
      ⊢ wp frame (wpE (defs₀ (F := F)) Variants.none c none) Set.univ
          (cc0_vptq_decode_linear i arg1 harg1 arg2 harg2 arg3 harg3 arg4 harg4 arg5 harg5 arg6 harg6 arg7 harg7 arg8 harg8 arg9 harg9 arg10 harg10) Q := by
  rw [show (iprop(∃ X8, owns (c : Thread nD τ) arg8 fullShare X8) : sProp 𝕄) = iprop(∃ f8, pt (F := F) c arg8 f8) from harg8.exists_owns_eq fullShare]
  refine (BIClass.sep_mono (owns_pt c arg1 harg1 X1) (BIClass.sep_mono (owns_pt c arg2 harg2 X2) (BIClass.sep_mono (owns_pt c arg3 harg3 X3)
    (BIClass.sep_mono (owns_pt c arg4 harg4 X4) (BIClass.sep_mono (owns_pt c arg5 harg5 X5) (BIClass.sep_mono (owns_pt c arg6 harg6 X6)
      (BIClass.sep_mono (owns_pt c arg7 harg7 X7) .rfl))))))).trans ?_
  iintro ⟨H1, H2, H3, H4, H5, H6, H7, ⟨%f8, H8⟩, ⟨%f9, H9⟩, ⟨%f10, H10⟩, Hk⟩
  iapply ((bodyRun (F := F) c i arg1 harg1 arg2 harg2 arg3 harg3 arg4 harg4 arg5 harg5 arg6 harg6 arg7 harg7 arg8 harg8 arg9 harg9 arg10 harg10 (harg1.unread X1) (harg2.unread X2) (harg3.unread X3) (harg4.unread X4) (harg5.unread X5) (harg6.unread X6) (harg7.unread X7) f8 f9 f10).2 Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H1, H2, H3, H4, H5, H6, H7, H8, H9, H10⟩
  iapply Hk
  isplitl [H1]; · iapply (pt_owns c arg1 harg1 _ X1 (harg1.read_unread X1)); iexact H1
  isplitl [H2]; · iapply (pt_owns c arg2 harg2 _ X2 (harg2.read_unread X2)); iexact H2
  isplitl [H3]; · iapply (pt_owns c arg3 harg3 _ X3 (harg3.read_unread X3)); iexact H3
  isplitl [H4]; · iapply (pt_owns c arg4 harg4 _ X4 (harg4.read_unread X4)); iexact H4
  isplitl [H5]; · iapply (pt_owns c arg5 harg5 _ X5 (harg5.read_unread X5)); iexact H5
  isplitl [H6]; · iapply (pt_owns c arg6 harg6 _ X6 (harg6.read_unread X6)); iexact H6
  isplitl [H7]; · iapply (pt_owns c arg7 harg7 _ X7 (harg7.read_unread X7)); iexact H7
  isplitl [H8]
  · iexists _
    isplitr
    · ipureintro; exact hP f8 f9 f10
    iapply (pt_owns c arg8 harg8 _ _ rfl); iexact H8
  isplitl [H9]
  · iexists _; iexact H9
  iexists _; iexact H10

end Cert.KernelIdeal.Decode

end
-- ==== Proof.KernelIdeal.Launch.lean ====
/-
  The launch: the body's obligation at every grid point and the run of @main from any memory. The result window is
  forgotten here: nothing in this module reads what the kernel writes.
-/
module

public import proofs.«01_k».proof.Proof.KernelIdeal.Owns
public import Idealize.ShloMosaic.Lib.Pipeline.FrameSuffix

@[expose] public section

noncomputable section

namespace Cert.KernelIdeal.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The result window alone is forgotten. -/
def forgets : Fin 8 → Bool := fun w => w.val == 7

/-- The proof data on core `c`: every input window's staging buffer keeps its block, the result's contents are unnamed,
    the two scratches and the generator register are held at anything between points. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => Pipeline.Dat.unnamed (cfg := cfg0) 7 t
  Φ _ := Pipeline.ΦA spec0 c
  q _ := fullShare
  owed _ := 0

/-- Every window's array starts at what the launch finds in it. -/
theorem A_eq (c : Dev nD) (w : Fin cfg0.W) : (dats m 0 c).A w = V m c (Pipeline.arrRef spec0 w) := by dsimp only [dats]
/-- The body leaves the block of the words as it was. -/
theorem after_0 (c : Dev nD) (t : Fin cfg0.N) : (dats m 0 c).after 0 t = iblk m c 0 t := by dsimp only [dats]
/-- The body finds the block of the words in its staging buffer. -/
theorem before_0 (c : Dev nD) (t : Fin cfg0.N) (d) : (dats m 0 c).before 0 t d = iblk m c 0 t :=
  before0_0_of m (dats m 0 c) (A_eq m c 0) (fun _ => by dsimp only [dats]) t d
/-- The body leaves the block of the activations as it was. -/
theorem after_1 (c : Dev nD) (t : Fin cfg0.N) : (dats m 0 c).after 1 t = iblk m c 1 t := by dsimp only [dats]
/-- The body finds the block of the activations in its staging buffer. -/
theorem before_1 (c : Dev nD) (t : Fin cfg0.N) (d) : (dats m 0 c).before 1 t d = iblk m c 1 t :=
  before0_1_of m (dats m 0 c) (A_eq m c 1) (fun _ => by dsimp only [dats]) t d
/-- The body leaves the block of the scales as it was. -/
theorem after_2 (c : Dev nD) (t : Fin cfg0.N) : (dats m 0 c).after 2 t = iblk m c 2 t := by dsimp only [dats]
/-- The body finds the block of the scales in its staging buffer. -/
theorem before_2 (c : Dev nD) (t : Fin cfg0.N) (d) : (dats m 0 c).before 2 t d = iblk m c 2 t :=
  before0_2_of m (dats m 0 c) (A_eq m c 2) (fun _ => by dsimp only [dats]) t d
/-- The body leaves the block of the biases as it was. -/
theorem after_3 (c : Dev nD) (t : Fin cfg0.N) : (dats m 0 c).after 3 t = iblk m c 3 t := by dsimp only [dats]
/-- The body finds the block of the biases in its staging buffer. -/
theorem before_3 (c : Dev nD) (t : Fin cfg0.N) (d) : (dats m 0 c).before 3 t d = iblk m c 3 t :=
  before0_3_of m (dats m 0 c) (A_eq m c 3) (fun _ => by dsimp only [dats]) t d
/-- The body leaves the block of the main codebook as it was. -/
theorem after_4 (c : Dev nD) (t : Fin cfg0.N) : (dats m 0 c).after 4 t = iblk m c 4 t := by dsimp only [dats]
/-- The body finds the block of the main codebook in its staging buffer. -/
theorem before_4 (c : Dev nD) (t : Fin cfg0.N) (d) : (dats m 0 c).before 4 t d = iblk m c 4 t :=
  before0_4_of m (dats m 0 c) (A_eq m c 4) (fun _ => by dsimp only [dats]) t d
/-- The body leaves the block of the residual codebook as it was. -/
theorem after_5 (c : Dev nD) (t : Fin cfg0.N) : (dats m 0 c).after 5 t = iblk m c 5 t := by dsimp only [dats]
/-- The body finds the block of the residual codebook in its staging buffer. -/
theorem before_5 (c : Dev nD) (t : Fin cfg0.N) (d) : (dats m 0 c).before 5 t d = iblk m c 5 t :=
  before0_5_of m (dats m 0 c) (A_eq m c 5) (fun _ => by dsimp only [dats]) t d
/-- The body leaves the block of the outlier codebook as it was. -/
theorem after_6 (c : Dev nD) (t : Fin cfg0.N) : (dats m 0 c).after 6 t = iblk m c 6 t := by dsimp only [dats]
/-- The body finds the block of the outlier codebook in its staging buffer. -/
theorem before_6 (c : Dev nD) (t : Fin cfg0.N) (d) : (dats m 0 c).before 6 t d = iblk m c 6 t :=
  before0_6_of m (dats m 0 c) (A_eq m c 6) (fun _ => by dsimp only [dats]) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d))
    ∗ (∃ X, owns (c : Thread nD τ) (st0_7 t) fullShare X))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t)
    ∗ (∃ X, owns (c : Thread nD τ) (st0_7 t) fullShare X))

/-- The two scratches of the invariant, as the body's memrefs. -/
theorem scratch_eq (c : Dev nD) :
    (Pipeline.ΦA spec0 c : sProp 𝕄)
      = iprop(iprop((∃ f9, pt (F := F) c (Memref.whole cc0_scratch0) f9) ∗ (∃ f10, pt (F := F) c (Memref.whole cc0_scratch1) f10)) ∗ (∃ r, prngReg c r)) := by
  unfold Pipeline.ΦA
  rw [scopedRest0_eq c]

/-- The body at a point: the inputs' staging buffers at their blocks, the run, everything handed back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl, scratch_eq]
  simp only [before_0 m c t, after_0 m c t, before_1 m c t, after_1 m c t, before_2 m c t, after_2 m c t, before_3 m c t, after_3 m c t, before_4 m c t, after_4 m c t, before_5 m c t, after_5 m c t, before_6 m c t, after_6 m c t]
  iintro ⟨⟨⟨H9, H10⟩, Hg⟩, HO, ⟨%d0, H0⟩, ⟨%d1, H1⟩, ⟨%d2, H2⟩, ⟨%d3, H3⟩, ⟨%d4, H4⟩, ⟨%d5, H5⟩, ⟨%d6, H6⟩, H7⟩
  iapply (body_owns c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (fun _ => True) (fun _ _ _ => trivial) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  iintro ⟨H0, H1, H2, H3, H4, H5, H6, ⟨%X8, -, H7⟩, H9, H10⟩
  isplitl [H9 H10 Hg]
  · isplitl [H9 H10]
    · isplitl [H9]; · iexact H9
      iexact H10
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexists X8; iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The obligation of the launch theorem. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-- The buffers the lines after the region write. -/
abbrev tailBufs : Finset (Ref sig .tc) := {main_v58, main_v59}

/-- The lines after the region write those buffers only. -/
theorem tail_writes : ∀ ops ∈ ([hostOps1] : List (List (HloOp τ sig (Elt F)))), ∀ op ∈ ops, ∀ b : Ref sig .tc,
    Proc.devRef .tc b ∈ op.writes → b ∈ tailBufs := by
  intro ops ho
  obtain rfl := List.mem_singleton.mp ho
  refine List.forall_iff_forall_mem.mp ?_
  simp only [hostOps1, List.Forall, StableHlo.unary_writes, StableHlo.reshape_writes, Finset.mem_singleton]
  refine ⟨fun b hb => ?_, fun b hb => ?_⟩
  · rw [Proc.devRef_injective _ hb]; decide
  · rw [Proc.devRef_injective _ hb]; decide

set_option backward.isDefEq.respectTransparency.types false in
/-- From any memory with zero counters every weakly fair execution of @main terminates, with every counter at zero, the
    input arrays and every buffer outside the tail at their contents before the region. -/
theorem run_main :
    θ_run defs (onTc (τ := τ) (main (F := F))) (s₀ m ρ)
      (fun r => Pipeline.RDat.FramePostR (cfgs 0) (fun c => (dats m 0 c).toRForget forgets) tailBufs (fun c b => V0 m c (Proc.devRef .tc b)) r
        ∧ r.2.sem = fun _ => 0) :=
  Pipeline.θ_run_frame_around_T_forget (Q' := _) cfgs (dats m) (0 : Fin 1) launch0 defs₀ Variants.none forgets tailBufs m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The run of @main leaves every argument array as it was and every counter at zero. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨
      ((h.1 c).2 main_arg0 (Finset.mem_sdiff.mpr ⟨Pipeline.mem_restRefs_of main_arg0 (by decide) (by decide), by decide⟩)).trans (V_main_arg0 m c),
      (Pipeline.RDat.FramePostR.arr_in h.1 c 0 rfl).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c),
      ((h.1 c).2 main_arg5 (Finset.mem_sdiff.mpr ⟨Pipeline.mem_restRefs_of main_arg5 (by decide) (by decide), by decide⟩)).trans (V_main_arg5 m c),
      ((h.1 c).2 main_arg6 (Finset.mem_sdiff.mpr ⟨Pipeline.mem_restRefs_of main_arg6 (by decide) (by decide), by decide⟩)).trans (V_main_arg6 m c)⟩, h.2⟩) (run_main m ρ)

end Cert.KernelIdeal.Decode

end
-- ==== Proof.KernelIdeal.Host.lean ====
/-
  The arrays the host lines hand the kernel, as functions of the program's arguments.
-/
module

public import proofs.«01_k».proof.Proof.Gen.KernelIdeal.Frame
public import Idealize.ShloMosaic.Lib.StableHlo.Run

@[expose] public section

noncomputable section

namespace Cert.KernelIdeal.Decode

open Cert.KernelIdeal Cert.KernelIdeal.Gen
open Idealize.ShloMosaic Idealize.ShloMosaic.TcCoe
open Idealize.ShloMosaic.StableHlo

variable {F : FTy → Type} [FloatOps F]

/-- The activations of the regular columns, grouped for the decoder: group, component, sublane. -/
def xRegular (x : FVec F S3x1x4096 .bf16) : FVec F S3x64x8x8 .bf16 :=
  shapeCast S3x64x8x8 (transpose S3x8x8x8x8 [0, 1, 3, 4, 2] (shapeCast S3x8x8x8x8
    (pad S3x512x8 ![0, 0, 0] ![0, 6, 0] ![0, 0, 0]
      (shapeCast S3x506x8 (extractStridedSlice S3x4048 ![0, 48] (shapeCast S3x4096 x shapeCasts_S3x1x4096_S3x4096) slices_S3x4096_S3x4048_0_48) shapeCasts_S3x4048_S3x506x8)
      (sitofp .bf16 (constantI S_ 32 0#32)) pads_S3x506x8_S3x512x8_000_060_000 h_S_)
    shapeCasts_S3x512x8_S3x8x8x8x8) transposes_S3x8x8x8x8_S3x8x8x8x8_0_1_3_4_2) shapeCasts_S3x8x8x8x8_S3x64x8x8

/-- The activations of the outlier columns: component, sublane. -/
def xOutlier (x : FVec F S3x1x4096 .bf16) : FVec F S3x1x8x8 .bf16 :=
  shapeCast S3x1x8x8 (transpose S3x8x8 [0, 2, 1]
    (pad S3x8x8 ![0, 0, 0] ![0, 2, 0] ![0, 0, 0]
      (shapeCast S3x6x8 (extractStridedSlice S3x48 ![0, 0] (shapeCast S3x4096 x shapeCasts_S3x1x4096_S3x4096) slices_S3x4096_S3x48_0_0) shapeCasts_S3x48_S3x6x8)
      (sitofp .bf16 (constantI S_ 32 0#32)) pads_S3x6x8_S3x8x8_000_020_000 h_S_)
    transposes_S3x8x8_S3x8x8_0_2_1) shapeCasts_S3x8x8_S3x1x8x8

/-- The activations the kernel multiplies: the groups, then the outliers, each pair of components sublane by sublane. -/
def xArray (x : FVec F S3x1x4096 .bf16) : FVec F S8x4160 .bf16 :=
  pad S8x4160 ![0, 0] ![5, 0] ![0, 0]
    (shapeCast S3x4160 (transpose S3x65x4x8x2 [0, 1, 2, 4, 3]
      (shapeCast S3x65x4x2x8 (concatenate S3x65x8x8 1 [⟨S3x64x8x8, xRegular x⟩, ⟨S3x1x8x8, xOutlier x⟩] concatenates_S3x64x8x8_S3x1x8x8_S3x65x8x8_d1)
        shapeCasts_S3x65x8x8_S3x65x4x2x8) transposes_S3x65x4x2x8_S3x65x4x8x2_0_1_2_4_3) shapeCasts_S3x65x4x8x2_S3x4160)
    (sitofp .bf16 (constantI S_ 32 0#32)) pads_S3x4160_S8x4160_050_000 h_S_

/-- The scales (or biases) of the regular columns: group, component, sublane. -/
def colRegular (v : FVec F S4096 .f32) : FVec F S64x8x8 .f32 :=
  shapeCast S64x8x8 (transpose S8x8x8x8 [0, 2, 3, 1] (shapeCast S8x8x8x8
    (pad S512x8 ![0, 0] ![6, 0] ![0, 0]
      (shapeCast S506x8 (extractStridedSlice S4048 ![48] v slices_S4096_S4048_48) shapeCasts_S4048_S506x8)
      (sitofp .f32 (constantI S_ 32 0#32)) pads_S506x8_S512x8_060_000 h_S_)
    shapeCasts_S512x8_S8x8x8x8) transposes_S8x8x8x8_S8x8x8x8_0_2_3_1) shapeCasts_S8x8x8x8_S64x8x8

/-- The scales (or biases) of the outlier columns: component, sublane. -/
def colOutlier (v : FVec F S4096 .f32) : FVec F S1x8x8 .f32 :=
  shapeCast S1x8x8 (transpose S8x8 [1, 0]
    (pad S8x8 ![0, 0] ![2, 0] ![0, 0]
      (shapeCast S6x8 (extractStridedSlice S48 ![0] v slices_S4096_S48_0) shapeCasts_S48_S6x8)
      (sitofp .f32 (constantI S_ 32 0#32)) pads_S6x8_S8x8_020_000 h_S_)
    transposes_S8x8_S8x8_1_0) shapeCasts_S8x8_S1x8x8

/-- The scales (or biases) the kernel reads: one row per weight row, spread over the lanes. -/
def colArray (v : FVec F S4096 .f32) : FVec F S4160x128 .f32 :=
  broadcastInDim S4160x128 ![0, 1] bcast_S4160x1_S4160x128_0_1
    (shapeCast S4160x1 (concatenate S65x8x8 0 [⟨S64x8x8, colRegular v⟩, ⟨S1x8x8, colOutlier v⟩] concatenates_S64x8x8_S1x8x8_S65x8x8_d0) shapeCasts_S65x8x8_S4160x1)

/-- The main codebook as a table of packed pairs, 128 entries per row, the pairs one after another. -/
def mainTable (c : IVec S4096x8 16) : IVec S128x128 32 :=
  shapeCast S128x128 (transpose S4x4096 [1, 0]
    (Host.bitcastConvertWiden S4096x4 32 (shapeCast S4096x4x2 c shapeCasts_S4096x8_S4096x4x2) splits_S4096x4_w32_S4096x4x2_w16)
    transposes_S4096x4_S4x4096_1_0) shapeCasts_S4x4096_S128x128

/-- The residual codebook as such a table. -/
def resTable (c : IVec S256x8 16) : IVec S8x128 32 :=
  shapeCast S8x128 (transpose S4x256 [1, 0]
    (Host.bitcastConvertWiden S256x4 32 (shapeCast S256x4x2 c shapeCasts_S256x8_S256x4x2) splits_S256x4_w32_S256x4x2_w16)
    transposes_S256x4_S4x256_1_0) shapeCasts_S4x256_S8x128

/-- The outlier codebook as such a table. -/
def outTable (c : IVec S1024x8 16) : IVec S32x128 32 :=
  shapeCast S32x128 (transpose S4x1024 [1, 0]
    (Host.bitcastConvertWiden S1024x4 32 (shapeCast S1024x4x2 c shapeCasts_S1024x8_S1024x4x2) splits_S1024x4_w32_S1024x4x2_w16)
    transposes_S1024x4_S4x1024_1_0) shapeCasts_S4x1024_S32x128

variable (m : (ℓ : Loc nD τ sig) → Buf (Elt F) ℓ)

set_option maxRecDepth 8192 in
set_option maxHeartbeats 2000000 in
/-- What the launch finds in the activations' operand. -/
theorem V_x (c : Dev nD) : V m c main_v16 = xArray (m ((c : Thread nD τ).loc main_arg0)) := by
  unfold V V0
  simp only [List.flatten_cons, List.flatten_nil, List.append_nil, List.cons_append, List.nil_append, TRef.unary, TRef.binary, TRef.toBuf, TRef.ofBuf, cast_eq]
  after_results_simp
  rfl

set_option maxRecDepth 8192 in
set_option maxHeartbeats 2000000 in
/-- What the launch finds in the scales' operand. -/
theorem V_scale (c : Dev nD) : V m c main_v30 = colArray (m ((c : Thread nD τ).loc main_arg5)) := by
  unfold V V0
  simp only [List.flatten_cons, List.flatten_nil, List.append_nil, List.cons_append, List.nil_append, TRef.unary, TRef.binary, TRef.toBuf, TRef.ofBuf, cast_eq]
  after_results_simp
  rfl

set_option maxRecDepth 8192 in
set_option maxHeartbeats 2000000 in
/-- What the launch finds in the biases' operand. -/
theorem V_bias (c : Dev nD) : V m c main_v44 = colArray (m ((c : Thread nD τ).loc main_arg6)) := by
  unfold V V0
  simp only [List.flatten_cons, List.flatten_nil, List.append_nil, List.cons_append, List.nil_append, TRef.unary, TRef.binary, TRef.toBuf, TRef.ofBuf, cast_eq]
  after_results_simp
  rfl

set_option maxRecDepth 8192 in
set_option maxHeartbeats 2000000 in
/-- What the launch finds in the main codebook's operand. -/
theorem V_main (c : Dev nD) : V m c main_v48 = mainTable (m ((c : Thread nD τ).loc main_arg2)) := by
  unfold V V0
  simp only [List.flatten_cons, List.flatten_nil, List.append_nil, List.cons_append, List.nil_append, TRef.unary, TRef.binary, TRef.toBuf, TRef.ofBuf, cast_eq]
  after_results_simp
  rfl

set_option maxRecDepth 8192 in
set_option maxHeartbeats 2000000 in
/-- What the launch finds in the residual codebook's operand. -/
theorem V_res (c : Dev nD) : V m c main_v52 = resTable (m ((c : Thread nD τ).loc main_arg3)) := by
  unfold V V0
  simp only [List.flatten_cons, List.flatten_nil, List.append_nil, List.cons_append, List.nil_append, TRef.unary, TRef.binary, TRef.toBuf, TRef.ofBuf, cast_eq]
  after_results_simp
  rfl

set_option maxRecDepth 8192 in
set_option maxHeartbeats 2000000 in
/-- What the launch finds in the outlier codebook's operand. -/
theorem V_out (c : Dev nD) : V m c main_v56 = outTable (m ((c : Thread nD τ).loc main_arg4)) := by
  unfold V V0
  simp only [List.flatten_cons, List.flatten_nil, List.append_nil, List.cons_append, List.nil_append, TRef.unary, TRef.binary, TRef.toBuf, TRef.ofBuf, cast_eq]
  after_results_simp
  rfl

end Cert.KernelIdeal.Decode

end
-- ==== Proof.KernelIdeal.Block.lean ====
/-
  What one trip of the decoding loop stores, in closed form: 32 blocks, one for each of its eight fields and four
  component pairs, each a lookup in the two codebook tables, scaled, shifted and rounded. The printed region spells
  the lookups out as trees of selections over table rows; `look` is that tree as a recursion.
-/
module

public import proofs.«01_k».proof.Proof.KernelIdeal.Trip

@[expose] public section

noncomputable section

namespace Cert.KernelIdeal.Decode

open Cert.KernelIdeal Cert.KernelIdeal.Gen
open Idealize.ShloMosaic Idealize.ShloMosaic.TcCoe

variable {F : FTy → Type} [FloatOps F]

/-- The lane a word selects within a table row: its low seven bits. -/
def lanes (v : IVec S8x128 32) : IVec S8x128 32 := andi v (broadcast S8x128 127#32)

/-- Bit `l` of the table row a word selects. -/
def rowBit (v : IVec S8x128 32) (l : ℕ) : IVec S8x128 1 :=
  cmpi .ne (andi v (broadcast S8x128 (BitVec.ofNat 32 (128 * 2 ^ l)))) (broadcast S8x128 0#32)

/-- One row of the table `T`, looked up lane by lane. -/
def leaf (T : ℕ → IVec S1x128 32) (v : IVec S8x128 32) (base : ℕ) : IVec S8x128 32 :=
  dynamicGather 1 (broadcastTo S8x128 (shapeCast S1x128 (shapeCast S1x128 (T base) shapeCasts_S1x128_S1x128) shapeCasts_S1x128_S1x128) broadcasts_S1x128_S8x128)
    (shapeCast S8x128 (shapeCast S8x128x1 (lanes v) shapeCasts_S8x128_S8x128x1) shapeCasts_S8x128x1_S8x128)

/-- The tree of selections over the `2 ^ l` rows of `T` from `base` on, by the low `l` row bits of `v`. -/
def look (T : ℕ → IVec S1x128 32) (v : IVec S8x128 32) : ℕ → ℕ → IVec S8x128 32
  | 0, base => leaf T v base
  | l + 1, base => select (rowBit v l) (look T v l (base + 2 ^ l)) (look T v l base)

/-- A row of a table lies in the table. -/
theorem row_inb {R n : ℕ} (h : n + 1 ≤ R) : ∀ a : Fin 2, (![n, 0] : Fin 2 → ℕ) a + S1x128.size a ≤ (⟨2, ![R, 128]⟩ : Shape).size a := by
  intro a; fin_cases a
  · exact h
  · exact le_refl _

/-- Row `n` of a table of `R` rows held in a buffer. -/
def rowOf (c : Dev nD) {R : ℕ} (A : Memref sig .tc .vmem ⟨2, ![R, 128]⟩ .i32) (f : Bf (F := F) c A) (n : ℕ) : IVec S1x128 32 :=
  if h : n + 1 ≤ R then A.view.readAt (Elt F) (Rect.unit (s := ⟨2, ![R, 128]⟩) ![n, 0] S1x128.size (row_inb h)).toLoadRect f else fun _ => 0#32

/-- The word rows a trip reads for a field that starts in word `q` of the group: eight rows, five apart. -/
theorem word_inb (k : Fin k0_t1_loop.trips) {q : ℕ} (h : 1 ≤ q ∧ q ≤ 6) :
    ∀ a, S1x8x128.size a = 0 ∨ (k0_off1 k (BitVec.ofNat 32 q)) a + (![1, 5, 1] : Fin 3 → ℕ) a * (S1x8x128.size a - 1) < S2x360x128.size a := by
  have := k0_off1_inb k ⟨q - 1, by omega⟩
  rwa [show 1 + (⟨q - 1, by omega⟩ : Fin 6).val = q by show 1 + (q - 1) = q; omega] at this

/-- The words in which trip `k`'s fields at word `q` of the group start. -/
def word (c : Dev nD) (A : Memref sig .tc .vmem S2x360x128 .i32) (f : Bf (F := F) c A) (k : Fin k0_t1_loop.trips) (q : ℕ) : IVec S8x128 32 :=
  shapeCast S8x128 (if h : 1 ≤ q ∧ q ≤ 6 then A.view.readAt (Elt F) ⟨k0_off1 k (BitVec.ofNat 32 q), S1x8x128.size, ![1, 5, 1], word_inb k h⟩ f else fun _ => 0#32)
    shapeCasts_S1x8x128_S8x128

/-- The next words, from which a field that crosses a word boundary takes its high bits. -/
def next (c : Dev nD) (A : Memref sig .tc .vmem S2x360x128 .i32) (f : Bf (F := F) c A) (k : Fin k0_t1_loop.trips) (r : Fin 4) : IVec S8x128 32 :=
  shapeCast S8x128 (A.view.readAt (Elt F) ⟨k0_off2 k (k0_off2_at r), S1x8x128.size, ![1, 5, 1], k0_off2_inb k r⟩ f) shapeCasts_S1x8x128_S8x128

/-- A field that starts at bit `sh` of its word. -/
def fld (lo : IVec S8x128 32) (sh : ℕ) : IVec S8x128 32 := shrui lo (broadcast S8x128 (BitVec.ofNat 32 sh))

/-- A field that starts at bit `sh` of its word and runs into the next one. -/
def fldAcross (lo hi : IVec S8x128 32) (sh : ℕ) : IVec S8x128 32 :=
  ori (fld lo sh) (shli hi (broadcast S8x128 (BitVec.ofNat 32 (32 - sh))))

/-- The words whose low twenty bits are field `r` of each of trip `k`'s eight groups. -/
def field (c : Dev nD) (A : Memref sig .tc .vmem S2x360x128 .i32) (f : Bf (F := F) c A) (k : Fin k0_t1_loop.trips) : Fin 8 → IVec S8x128 32
  | 0 => fldAcross (word c A f k 1) (next c A f k 0) 28
  | 1 => fldAcross (word c A f k 2) (next c A f k 1) 16
  | 2 => fld (word c A f k 3) 4
  | 3 => fldAcross (word c A f k 3) (next c A f k 2) 24
  | 4 => fld (word c A f k 4) 12
  | 5 => word c A f k 5
  | 6 => fldAcross (word c A f k 5) (next c A f k 3) 20
  | 7 => fld (word c A f k 6) 8

/-- The eight rows of a scale (or bias) array for field `r` and component `j`. -/
def perRow (c : Dev nD) (A : Memref sig .tc .vmem S4160x128 .f32) (f : Bf (F := F) c A) (k : Fin k0_t1_loop.trips) (r j : Fin 8) : FVec F S8x128 .f32 :=
  shapeCast S8x128 (A.view.readAt (Elt F) (Rect.unit (s := S4160x128) (k0_off3 k (BitVec.ofNat 32 r.val) (BitVec.ofNat 32 (8 * j.val))) S8x128.size (k0_off3_inb k r j)).toLoadRect f)
    shapeCasts_S8x128_S8x128

/-- The low halves of packed words, each the number its sixteen bits write. -/
def lowHalf (m : IVec S8x128 32) : FVec F S8x128 .f32 := bitcastToFloat .f32 (shli m (broadcast S8x128 16#32))

/-- The high halves of packed words, each the number its sixteen bits write. -/
def highHalf (m : IVec S8x128 32) : FVec F S8x128 .f32 := bitcastToFloat .f32 (andi m (broadcast S8x128 4294901760#32))

/-- The 16 by 128 block of weights for field `r` and component pair `w`: main codebook plus residual codebook, scaled
    and shifted, the two components of the pair interleaved row by row. -/
def block (c : Dev nD) (arg3 arg4 : Memref sig .tc .vmem S4160x128 .f32) (arg5 : Memref sig .tc .vmem S128x128 .i32)
    (arg6 : Memref sig .tc .vmem S8x128 .i32) (arg9 : Memref sig .tc .vmem S2x360x128 .i32)
    (f3 : Bf (F := F) c arg3) (f4 : Bf (F := F) c arg4) (f5 : Bf (F := F) c arg5) (f6 : Bf (F := F) c arg6) (f9 : Bf (F := F) c arg9)
    (k : Fin k0_t1_loop.trips) (r : Fin 8) (w : Fin 4) : FVec F S16x128 .bf16 :=
  let v := field c arg9 f9 k r
  let m := look (rowOf c arg5 f5) v 5 (32 * w.val)
  let e := look (rowOf c arg6 f6) (shrui v (broadcast S8x128 12#32)) 1 (2 * w.val)
  let lo : FVec F S8x128 .f32 := addf (mulf (addf (lowHalf m) (lowHalf e)) (perRow c arg3 f3 k r ⟨2 * w.val, by omega⟩)) (perRow c arg4 f4 k r ⟨2 * w.val, by omega⟩)
  let hi : FVec F S8x128 .f32 := addf (mulf (addf (highHalf m) (highHalf e)) (perRow c arg3 f3 k r ⟨2 * w.val + 1, by omega⟩)) (perRow c arg4 f4 k r ⟨2 * w.val + 1, by omega⟩)
  shapeCast S16x128 (interleaveRows S16x128 (truncf .bf16 lo) (truncf .bf16 hi) bitcasts_S16x128_w16_S8x128_w32) shapeCasts_S16x128_S16x128

/-- The block of field `r` and pair `w`, as a store into the weight scratch. -/
def piece (c : Dev nD) (arg3 arg4 : Memref sig .tc .vmem S4160x128 .f32) (arg5 : Memref sig .tc .vmem S128x128 .i32)
    (arg6 : Memref sig .tc .vmem S8x128 .i32) (arg9 : Memref sig .tc .vmem S2x360x128 .i32)
    (f3 : Bf (F := F) c arg3) (f4 : Bf (F := F) c arg4) (f5 : Bf (F := F) c arg5) (f6 : Bf (F := F) c arg6) (f9 : Bf (F := F) c arg9)
    (k : Fin k0_t1_loop.trips) (r : Fin 8) (w : Fin 4) : View.Piece (Elt F) S4160x256 .bf16 :=
  ⟨Rect.unit (s := S4160x256) (k0_off4 k (BitVec.ofNat 32 r.val) (BitVec.ofNat 32 (16 * w.val))) S16x128.size (k0_off4_inb k r w),
    block c arg3 arg4 arg5 arg6 arg9 f3 f4 f5 f6 f9 k r w⟩

/-- What a trip stores: its 32 blocks, the last stored first. -/
def pieces (c : Dev nD) (arg3 arg4 : Memref sig .tc .vmem S4160x128 .f32) (arg5 : Memref sig .tc .vmem S128x128 .i32)
    (arg6 : Memref sig .tc .vmem S8x128 .i32) (arg9 : Memref sig .tc .vmem S2x360x128 .i32)
    (f3 : Bf (F := F) c arg3) (f4 : Bf (F := F) c arg4) (f5 : Bf (F := F) c arg5) (f6 : Bf (F := F) c arg6) (f9 : Bf (F := F) c arg9)
    (k : Fin k0_t1_loop.trips) : List (View.Piece (Elt F) S4160x256 .bf16) :=
  ([7, 6, 5, 4, 3, 2, 1, 0] : List (Fin 8)).flatMap fun r => ([3, 2, 1, 0] : List (Fin 4)).map fun w => piece c arg3 arg4 arg5 arg6 arg9 f3 f4 f5 f6 f9 k r w

end Cert.KernelIdeal.Decode

end
-- ==== Proof.KernelIdeal.Look.lean ====
/-
  The table lookups of the kernel, entry by entry.
-/
module

public import proofs.«01_k».proof.Proof.KernelIdeal.Block
public import Idealize.ShloMosaic.Lib.Pointwise

@[expose] public section

noncomputable section

namespace Cert.KernelIdeal.Decode

open Cert.KernelIdeal Cert.KernelIdeal.Gen
open Idealize.ShloMosaic Idealize.ShloMosaic.TcCoe

variable {F : FTy → Type} [FloatOps F]

/-- One row of a table, looked up: the entry at the lane the low seven bits of the word give. -/
theorem leaf_apply (T : ℕ → IVec S1x128 32) (v : IVec S8x128 32) (base : ℕ) (s : Fin 8) (l : Fin 128) :
    leaf T v base (ix2 s l) = T base (ix2 0 ⟨(v (ix2 s l)).toNat % 128, Nat.mod_lt _ (by omega)⟩) := by
  unfold leaf lanes
  pointwise
  refine congrArg (fun n => T base (ix2 0 n)) (Fin.ext ?_)
  show ((v (ix2 s l)) &&& 127#32).toNat % 128 = (v (ix2 s l)).toNat % 128
  rw [BitVec.toNat_and, show (127#32).toNat = 2 ^ 7 - 1 by rfl, Nat.and_two_pow_sub_one_eq_mod, show 2 ^ 7 = 128 by rfl, Nat.mod_mod]

/-- A row bit, as a condition. -/
theorem rowBit_apply (v : IVec S8x128 32) (l : ℕ) (hl : l < 25) (j : S8x128.Idx) :
    rowBit v l j = BitVec.ofBool ((v j).toNat.testBit (7 + l)) := by
  unfold rowBit
  show BitVec.ofBool ((v j &&& BitVec.ofNat 32 (128 * 2 ^ l)) != 0#32) = _
  have e : BitVec.ofNat 32 (128 * 2 ^ l) = BitVec.twoPow 32 (7 + l) := by
    refine BitVec.eq_of_toNat_eq ?_
    rw [BitVec.toNat_ofNat, BitVec.toNat_twoPow, Nat.pow_add]
  have hne : BitVec.twoPow 32 (7 + l) ≠ 0#32 := fun h => by
    have := congrArg BitVec.toNat h
    rw [BitVec.toNat_twoPow, Nat.mod_eq_of_lt (Nat.pow_lt_pow_right (by omega) (by omega))] at this
    have h0 : 0 < 2 ^ (7 + l) := by positivity
    simp at this
  rw [e, BitVec.and_twoPow]
  congr 1
  show _ = (v j).getLsbD (7 + l)
  cases hb : (v j).getLsbD (7 + l)
  · simp
  · simpa using hne

/-- One more row bit. -/
theorem mod_two_pow_succ (x L : ℕ) : x / 128 % 2 ^ (L + 1) = x / 128 % 2 ^ L + 2 ^ L * (x.testBit (7 + L)).toNat := by
  rw [Nat.mod_pow_succ, Nat.toNat_testBit, show 128 = 2 ^ 7 by rfl, Nat.div_div_eq_div_mul, ← Nat.pow_add]

/-- The tree of selections is the lookup in the row that the word's row bits number. -/
theorem look_apply (T : ℕ → IVec S1x128 32) (v : IVec S8x128 32) (s : Fin 8) (l : Fin 128) (L : ℕ) (hL : L ≤ 25) (base : ℕ) :
    look T v L base (ix2 s l) = T (base + (v (ix2 s l)).toNat / 128 % 2 ^ L) (ix2 0 ⟨(v (ix2 s l)).toNat % 128, Nat.mod_lt _ (by omega)⟩) := by
  induction L generalizing base with
  | zero => rw [look, leaf_apply, Nat.pow_zero, Nat.mod_one, Nat.add_zero]
  | succ L ih =>
    rw [look]
    pointwise
    rw [rowBit_apply v L (by omega), ih (by omega), ih (by omega)]
    have hd := mod_two_pow_succ (v (ix2 s l)).toNat L
    rw [hd]
    cases hb : (v (ix2 s l)).toNat.testBit (7 + L)
    · rw [Bool.toNat_false, Nat.mul_zero, Nat.add_zero]; rfl
    · rw [Bool.toNat_true, Nat.mul_one, Nat.add_comm (_ % _), ← Nat.add_assoc]; rfl

end Cert.KernelIdeal.Decode

end
-- ==== Proof.KernelIdeal.Offsets.lean ====
/-
  Where the decoding loop's trips read and write, in closed form.
-/
module

public import proofs.«01_k».proof.Proof.KernelIdeal.Look

@[expose] public section

noncomputable section

namespace Cert.KernelIdeal.Decode

open Cert.KernelIdeal Cert.KernelIdeal.Gen
open Idealize.ShloMosaic Idealize.ShloMosaic.TcCoe

/-- There are sixteen trips: two lane groups of eight groups of words. -/
theorem trips_eq : k0_t1_loop.trips = 16 := by decide +kernel

/-- Where trip `k` reads the word that field `q` words on begins in. -/
theorem off1_eq : ∀ (k : Fin k0_t1_loop.trips) (q : Fin 7), k0_off1 k (BitVec.ofNat 32 q.val) = ![k.val / 8, q.val + 40 * (k.val % 8), 0] := by decide +kernel

/-- Where it reads the word such a field runs over into. -/
theorem off2_eq : ∀ (k : Fin k0_t1_loop.trips) (r : Fin 4), k0_off2 k (k0_off2_at r) = ![k.val / 8, (![2, 3, 4, 6] : Fin 4 → ℕ) r + 40 * (k.val % 8), 0] := by decide +kernel

/-- Where it reads the scales and biases of component `j` of field `r`. -/
theorem off3_eq : ∀ (k : Fin k0_t1_loop.trips) (r j : Fin 8), k0_off3 k (BitVec.ofNat 32 r.val) (BitVec.ofNat 32 (8 * j.val)) = ![64 * (8 * (k.val % 8) + r.val) + 8 * j.val, 0] := by decide +kernel

end Cert.KernelIdeal.Decode

end
-- ==== Proof.Words.lean ====
/-
  Bit fields of a row of 32-bit words: the number the bits from a position on write, and the two ways of cutting it out
  with shifts.
-/
module

public import Idealize.ShloMosaic.Lib.Pointwise

@[expose] public section

namespace Cert.Decode

/-- Bit `n` of a row of 32-bit words, the least significant bit of the first word first. -/
def bitAt (w : ℕ → BitVec 32) (n : ℕ) : Bool := (w (n / 32)).getLsbD (n % 32)

/-- The number that the `width` bits from bit `off` on write. -/
def fieldNat (w : ℕ → BitVec 32) (off width : ℕ) : ℕ := Nat.ofBits fun i : Fin width => bitAt w (off + i.val)

/-- A field of `width` bits is below `2 ^ width`. -/
theorem fieldNat_lt (w : ℕ → BitVec 32) (off width : ℕ) : fieldNat w off width < 2 ^ width := Nat.ofBits_lt_two_pow _

/-- A number whose low bits are a field's is that field modulo its range. -/
theorem toNat_mod_eq {n : ℕ} {v : BitVec n} {w : ℕ → BitVec 32} {off width : ℕ}
    (h : ∀ i < width, v.getLsbD i = bitAt w (off + i)) : v.toNat % 2 ^ width = fieldNat w off width := by
  refine Nat.eq_of_testBit_eq fun i => ?_
  rw [Nat.testBit_mod_two_pow]
  by_cases hi : i < width
  · rw [fieldNat, Nat.testBit_ofBits_lt _ _ hi, ← h i hi]
    simp [hi, BitVec.getLsbD]
  · rw [fieldNat, Nat.testBit_ofBits_ge _ _ (by omega)]
    simp [hi]

/-- The bits of a word shifted right. -/
theorem getLsbD_low (w : ℕ → BitVec 32) (q sh i : ℕ) (h : sh + i < 32) :
    (w q >>> sh).getLsbD i = bitAt w (32 * q + sh + i) := by
  rw [BitVec.getLsbD_ushiftRight, bitAt, show (32 * q + sh + i) / 32 = q by omega, show (32 * q + sh + i) % 32 = sh + i by omega]

/-- The bits of a word shifted right, continued by the next word's. -/
theorem getLsbD_across (w : ℕ → BitVec 32) (q sh i : ℕ) (h0 : 0 < sh) (h1 : sh < 32) (hi : i < 32) :
    (w q >>> sh ||| w (q + 1) <<< (32 - sh)).getLsbD i = bitAt w (32 * q + sh + i) := by
  rw [BitVec.getLsbD_or, BitVec.getLsbD_ushiftRight, BitVec.getLsbD_shiftLeft, bitAt]
  by_cases h : sh + i < 32
  · rw [show (32 * q + sh + i) / 32 = q by omega, show (32 * q + sh + i) % 32 = sh + i by omega]
    simp [show i < 32 - sh by omega]
  · rw [show (32 * q + sh + i) / 32 = q + 1 by omega, show (32 * q + sh + i) % 32 = sh + i - 32 by omega,
      BitVec.getLsbD_of_ge (w q) (sh + i) (by omega)]
    simp [show ¬ i < 32 - sh by omega, hi, show i - (32 - sh) = sh + i - 32 by omega]

/-- The field of `width` bits at bit `off`, cut out of its word and, where it runs over, the next. -/
theorem cut_toNat (w : ℕ → BitVec 32) (off width : ℕ) (lo hi spill : BitVec 32) (hw : width < 32)
    (hlo : lo = w (off / 32)) (hhi : 32 < off % 32 + width → hi = w (off / 32 + 1))
    (hs : spill = if 32 < off % 32 + width then hi <<< (32 - off % 32) else 0#32) :
    ((lo >>> (off % 32) ||| spill) &&& BitVec.ofNat 32 (2 ^ width - 1)).toNat = fieldNat w off width := by
  have h2 : (BitVec.ofNat 32 (2 ^ width - 1)).toNat = 2 ^ width - 1 := by
    rw [BitVec.toNat_ofNat, Nat.mod_eq_of_lt]
    have := Nat.pow_lt_pow_right (a := 2) (by omega) hw
    have : 0 < 2 ^ width := by positivity
    omega
  rw [BitVec.toNat_and, h2, Nat.and_two_pow_sub_one_eq_mod]
  refine toNat_mod_eq fun i hi' => ?_
  subst hlo hs
  have ho : off + i = 32 * (off / 32) + off % 32 + i := by omega
  by_cases h : 32 < off % 32 + width
  · rw [if_pos h, hhi h, getLsbD_across w _ _ i (by omega) (by omega) (by omega), ho]
  · rw [if_neg h, BitVec.or_zero, getLsbD_low w _ _ i (by omega), ho]

end Cert.Decode
-- ==== Proof.KernelIdeal.FieldVal.lean ====
/-
  The fields a trip cuts out of the transposed words, bit by bit.
-/
module

public import proofs.«01_k».proof.Proof.KernelIdeal.Offsets
public import proofs.«01_k».proof.Proof.Words

@[expose] public section

noncomputable section

namespace Cert.KernelIdeal.Decode

open Cert.KernelIdeal Cert.KernelIdeal.Gen Cert.Decode
open Idealize.ShloMosaic Idealize.ShloMosaic.TcCoe

variable {F : FTy → Type} [FloatOps F]

/-- The lane group of trip `k`. -/
def group (k : Fin k0_t1_loop.trips) : Fin 2 := ⟨k.val / 8, by have := trips_eq; omega⟩

/-- A load's leading unit axis dropped. -/
theorem drop_unit {α : Type} (v : S1x8x128.Idx → α) (s : Fin 8) (l : Fin 128) : shapeCast S8x128 v shapeCasts_S1x8x128_S8x128 (ix2 s l) = v (ix3 0 s l) := by
  pointwise

/-- A load of eight word rows, five apart. -/
theorem read_words (c : Dev nD) (A : Memref sig .tc .vmem S2x360x128 .i32) (f : Bf (F := F) c A) (k : Fin k0_t1_loop.trips) (off : Fin 3 → ℕ) (q : ℕ)
    (ho : off = ![k.val / 8, q + 40 * (k.val % 8), 0]) (hq : q ≤ 6)
    (h : ∀ a, S1x8x128.size a = 0 ∨ off a + (![1, 5, 1] : Fin 3 → ℕ) a * (S1x8x128.size a - 1) < S2x360x128.size a) (s : Fin 8) (l : Fin 128) :
    shapeCast S8x128 (A.view.readAt (Elt F) ⟨off, S1x8x128.size, ![1, 5, 1], h⟩ f) shapeCasts_S1x8x128_S8x128 (ix2 s l)
      = A.view.read (Elt F) f (ix3 (group k) ⟨q + 40 * (k.val % 8) + 5 * s.val, by omega⟩ l) := by
  subst ho
  refine (drop_unit _ s l).trans ?_
  rw [View.readAt_apply]
  refine congrArg (A.view.read (Elt F) f) ?_
  funext a; refine Fin.ext ?_
  fin_cases a
  · show k.val / 8 + 1 * 0 = k.val / 8; omega
  · rfl
  · show 0 + 1 * l.val = l.val; omega

/-- The words a field begins in: word `q` of each period of five, for the eight periods of the trip. -/
theorem word_apply (c : Dev nD) (A : Memref sig .tc .vmem S2x360x128 .i32) (f : Bf (F := F) c A) (k : Fin k0_t1_loop.trips) (q : ℕ) (h1 : 1 ≤ q) (h6 : q ≤ 6) (s : Fin 8) (l : Fin 128) :
    word c A f k q (ix2 s l) = A.view.read (Elt F) f (ix3 (group k) ⟨q + 40 * (k.val % 8) + 5 * s.val, by omega⟩ l) := by
  unfold word
  rw [dif_pos ⟨h1, h6⟩]
  exact read_words c A f k _ q (off1_eq k ⟨q, by omega⟩) h6 _ s l

/-- The words a field runs over into, likewise. -/
theorem next_apply (c : Dev nD) (A : Memref sig .tc .vmem S2x360x128 .i32) (f : Bf (F := F) c A) (k : Fin k0_t1_loop.trips) (r : Fin 4) (q : ℕ) (hq : (![2, 3, 4, 6] : Fin 4 → ℕ) r = q) (h6 : q ≤ 6) (s : Fin 8) (l : Fin 128) :
    next c A f k r (ix2 s l) = A.view.read (Elt F) f (ix3 (group k) ⟨q + 40 * (k.val % 8) + 5 * s.val, by omega⟩ l) := by
  subst hq
  exact read_words c A f k _ _ (off2_eq k r) h6 _ s l

/-- A field within one word. -/
theorem fld_apply (lo : IVec S8x128 32) (sh : ℕ) (h : sh < 32) (j : S8x128.Idx) : fld lo sh j = lo j >>> sh := by
  show IntOp.shrui .vector (lo j) (BitVec.ofNat 32 sh) = _
  have e : (BitVec.ofNat 32 sh).toNat = sh := by rw [BitVec.toNat_ofNat]; omega
  unfold IntOp.shrui
  rw [e, if_pos h, BitVec.ushiftRight_eq', e]

/-- A field across two words. -/
theorem fldAcross_apply (lo hi : IVec S8x128 32) (sh : ℕ) (h0 : 0 < sh) (h : sh < 32) (j : S8x128.Idx) : fldAcross lo hi sh j = lo j >>> sh ||| hi j <<< (32 - sh) := by
  show fld lo sh j ||| IntOp.shli .vector (hi j) (BitVec.ofNat 32 (32 - sh)) = _
  have e : (BitVec.ofNat 32 (32 - sh)).toNat = 32 - sh := by rw [BitVec.toNat_ofNat]; omega
  rw [fld_apply lo sh h]
  unfold IntOp.shli
  rw [e, if_pos (by omega), BitVec.shiftLeft_eq', e]

/-- The twenty bits of field `r` of the trip's group at sublane `s`, in the words `W` of the row. -/
theorem field_bits (c : Dev nD) (A : Memref sig .tc .vmem S2x360x128 .i32) (f : Bf (F := F) c A) (k : Fin k0_t1_loop.trips) (r : Fin 8) (s : Fin 8) (l : Fin 128) (W : ℕ → BitVec 32)
    (hT : ∀ n : Fin 360, A.view.read (Elt F) f (ix3 (group k) n l) = W n.val) (i : ℕ) (hi : i < 20) :
    (field c A f k r (ix2 s l)).getLsbD i = bitAt W (60 + 20 * (8 * (8 * (k.val % 8) + s.val) + r.val) + i) := by
  have hw : ∀ q, 1 ≤ q → q ≤ 6 → word c A f k q (ix2 s l) = W (q + 40 * (k.val % 8) + 5 * s.val) := fun q h1 h6 => by
    rw [word_apply c A f k q h1 h6, hT]
  have hn : ∀ (r : Fin 4) (q : ℕ), (![2, 3, 4, 6] : Fin 4 → ℕ) r = q → q ≤ 6 → next c A f k r (ix2 s l) = W (q + 40 * (k.val % 8) + 5 * s.val) := fun r q h h6 => by
    rw [next_apply c A f k r q h h6, hT]
  have low : ∀ q sh, 1 ≤ q → q ≤ 6 → sh + 20 ≤ 32 → (fld (word c A f k q) sh (ix2 s l)).getLsbD i = bitAt W (32 * (q + 40 * (k.val % 8) + 5 * s.val) + sh + i) := fun q sh h1 h6 h => by
    rw [fld_apply _ _ (by omega), hw q h1 h6, getLsbD_low _ _ _ _ (by omega)]
  have across : ∀ (q sh : ℕ) (r : Fin 4), 1 ≤ q → q < 6 → 0 < sh → sh < 32 → (![2, 3, 4, 6] : Fin 4 → ℕ) r = q + 1 →
      (fldAcross (word c A f k q) (next c A f k r) sh (ix2 s l)).getLsbD i = bitAt W (32 * (q + 40 * (k.val % 8) + 5 * s.val) + sh + i) := fun q sh r h1 h6 h0 h hr => by
    rw [fldAcross_apply _ _ _ h0 h, hw q h1 (by omega), hn r _ hr (by omega), show q + 1 + 40 * (k.val % 8) + 5 * s.val = (q + 40 * (k.val % 8) + 5 * s.val) + 1 by omega, getLsbD_across _ _ _ _ h0 h (by omega)]
  fin_cases r
  · refine (across 1 28 0 (by omega) (by omega) (by omega) (by omega) rfl).trans (congrArg (bitAt W) ?_)
    show _ = 60 + 20 * (8 * (8 * (k.val % 8) + s.val) + 0) + i; omega
  · refine (across 2 16 1 (by omega) (by omega) (by omega) (by omega) rfl).trans (congrArg (bitAt W) ?_)
    show _ = 60 + 20 * (8 * (8 * (k.val % 8) + s.val) + 1) + i; omega
  · refine (low 3 4 (by omega) (by omega) (by omega)).trans (congrArg (bitAt W) ?_)
    show _ = 60 + 20 * (8 * (8 * (k.val % 8) + s.val) + 2) + i; omega
  · refine (across 3 24 2 (by omega) (by omega) (by omega) (by omega) rfl).trans (congrArg (bitAt W) ?_)
    show _ = 60 + 20 * (8 * (8 * (k.val % 8) + s.val) + 3) + i; omega
  · refine (low 4 12 (by omega) (by omega) (by omega)).trans (congrArg (bitAt W) ?_)
    show _ = 60 + 20 * (8 * (8 * (k.val % 8) + s.val) + 4) + i; omega
  · have e : field c A f k 5 (ix2 s l) = W (5 + 40 * (k.val % 8) + 5 * s.val) := hw 5 (by omega) (by omega)
    have e2 := getLsbD_low W (5 + 40 * (k.val % 8) + 5 * s.val) 0 i (by omega)
    rw [BitVec.ushiftRight_zero] at e2
    refine ((congrArg (fun v => BitVec.getLsbD v i) e).trans e2).trans (congrArg (bitAt W) ?_)
    show _ = 60 + 20 * (8 * (8 * (k.val % 8) + s.val) + 5) + i; omega
  · refine (across 5 20 3 (by omega) (by omega) (by omega) (by omega) rfl).trans (congrArg (bitAt W) ?_)
    show _ = 60 + 20 * (8 * (8 * (k.val % 8) + s.val) + 6) + i; omega
  · refine (low 6 8 (by omega) (by omega) (by omega)).trans (congrArg (bitAt W) ?_)
    show _ = 60 + 20 * (8 * (8 * (k.val % 8) + s.val) + 7) + i; omega

end Cert.KernelIdeal.Decode

end
-- ==== Proof.Halves.lean ====
/-
  Sixteen-bit floating-point words widened to thirty-two bits by sixteen zeros denote the same number.
-/
module

public import Idealize.ShloMosaic.Lib.Pointwise

@[expose] public section

noncomputable section

namespace Cert.Decode

open Idealize.ShloMosaic

/-- The number a sixteen-bit codebook entry denotes. -/
def num (b : BitVec 16) : EReal := Ideal.ofBits .bf16 b

/-- A sixteen-bit word with sixteen zeros behind it denotes, read as a longer word, the same number. -/
theorem ofBits_widen (b : BitVec 16) (v : BitVec 32) (hv : v.toNat = b.toNat * 65536) : Ideal.ofBits .f32 v = num b := by
  have e1 : v.extractLsb' 31 1 = b.extractLsb' 15 1 := by
    refine BitVec.eq_of_toNat_eq ?_
    rw [BitVec.extractLsb'_toNat, BitVec.extractLsb'_toNat, hv, Nat.shiftRight_eq_div_pow, Nat.shiftRight_eq_div_pow]
    omega
  have e2 : (v.extractLsb' 23 8).toNat = (b.extractLsb' 7 8).toNat := by
    rw [BitVec.extractLsb'_toNat, BitVec.extractLsb'_toNat, hv, Nat.shiftRight_eq_div_pow, Nat.shiftRight_eq_div_pow]
    omega
  have e3 : (v.extractLsb' 0 23).toNat = (b.extractLsb' 0 7).toNat * 65536 := by
    rw [BitVec.extractLsb'_toNat, BitVec.extractLsb'_toNat, hv, Nat.shiftRight_eq_div_pow, Nat.shiftRight_eq_div_pow]
    omega
  show Ideal.ieee 8 23 v = Ideal.ieee 8 7 b
  unfold Ideal.ieee
  simp only [show (8 + 23 : ℕ) = 31 by rfl, show (8 + 7 : ℕ) = 15 by rfl, e1, e2, e3]
  generalize (b.extractLsb' 7 8).toNat = ex
  generalize (b.extractLsb' 0 7).toNat = fr
  generalize (b.extractLsb' 15 1 == 1#1) = neg
  have hz : (fr * 65536 = 0) ↔ (fr = 0) := by omega
  simp only [hz]
  have p : ∀ n : ℤ, (65536 : ℝ) * (2 : ℝ) ^ (n - 16) = (2 : ℝ) ^ n := fun n => by
    rw [zpow_sub₀ (by norm_num)]; norm_num; field_simp
  congr 1
  have hp := p
  congr 1
  · congr 1
    rw [Nat.cast_mul, Nat.cast_ofNat, ← mul_assoc, mul_assoc _ (65536 : ℝ),
      show ((1 : ℤ) - (2 ^ (8 - 1) - 1) - ((23 : ℕ) : ℤ)) = (1 - (2 ^ (8 - 1) - 1) - ((7 : ℕ) : ℤ)) - 16 by norm_num, p]
  · congr 1
    rw [show 2 ^ 23 + fr * 65536 = (2 ^ 7 + fr) * 65536 by omega, Nat.cast_mul, Nat.cast_ofNat, ← mul_assoc, mul_assoc _ (65536 : ℝ),
      show ((ex : ℤ) - (2 ^ (8 - 1) - 1) - ((23 : ℕ) : ℤ)) = ((ex : ℤ) - (2 ^ (8 - 1) - 1) - ((7 : ℕ) : ℤ)) - 16 by push_cast; ring, p]

/-- The low half of a packed pair, moved up, denotes the pair's first number. -/
theorem low_half (a b : BitVec 16) : Ideal.ofBits .f32 ((b ++ a : BitVec 32) <<< 16) = num a := by
  refine ofBits_widen a _ ?_
  have e : ((b ++ a : BitVec 32) <<< 16) = a ++ 0#16 := by
    refine BitVec.eq_of_getLsbD_eq fun i hi => ?_
    rw [BitVec.getLsbD_shiftLeft, BitVec.getLsbD_append, BitVec.getLsbD_append]
    by_cases h : i < 16
    · simp [h]
    · simp [h, hi, show i - 16 < 16 by omega]
  rw [e, BitVec.toNat_append]
  simp [Nat.shiftLeft_eq]

/-- The high half of a packed pair denotes the pair's second number. -/
theorem high_half (a b : BitVec 16) : Ideal.ofBits .f32 ((b ++ a : BitVec 32) &&& 4294901760#32) = num b := by
  refine ofBits_widen b _ ?_
  have e : ((b ++ a : BitVec 32) &&& 4294901760#32) = b ++ 0#16 := by
    refine BitVec.eq_of_getLsbD_eq fun i hi => ?_
    rw [BitVec.getLsbD_and, BitVec.getLsbD_append, BitVec.getLsbD_append]
    have hm : ∀ i : Fin 32, (4294901760#32).getLsbD i.val = decide (16 ≤ i.val) := by decide
    rw [hm ⟨i, hi⟩]
    by_cases h : i < 16
    · simp [h]
    · simp [h, show 16 ≤ i by omega]
  rw [e, BitVec.toNat_append]
  simp [Nat.shiftLeft_eq]

end Cert.Decode

end
-- ==== Proof.KernelIdeal.BlockVal.lean ====
/-
  The blocks of weights a trip stores, entry by entry.
-/
module

public import proofs.«01_k».proof.Proof.KernelIdeal.FieldVal
public import proofs.«01_k».proof.Proof.Halves

@[expose] public section

noncomputable section

namespace Cert.KernelIdeal.Decode

open Cert.KernelIdeal Cert.KernelIdeal.Gen Cert.Decode
open Idealize.ShloMosaic Idealize.ShloMosaic.TcCoe

/-- A codebook as a table of packed pairs: row `r`, lane `a`, where every pair takes `n` rows. -/
def packed (C : ℕ → ℕ → BitVec 16) (n r a : ℕ) : BitVec 32 := C (128 * (r % n) + a) (2 * (r / n) + 1) ++ C (128 * (r % n) + a) (2 * (r / n))

/-- A row of a table, entry by entry. -/
theorem rowOf_apply (c : Dev nD) {R : ℕ} (A : Memref sig .tc .vmem ⟨2, ![R, 128]⟩ .i32) (f : Bf (F := Ideal) c A) (n : ℕ) (h : n < R) (a : Fin 128) :
    rowOf c A f n (ix2 0 a) = A.view.read (Elt Ideal) f (ix2 ⟨n, h⟩ a) := by
  unfold rowOf
  rw [dif_pos (show n + 1 ≤ R from h)]
  refine congrArg (A.view.read (Elt Ideal) f) ?_
  funext b; refine Fin.ext ?_
  fin_cases b
  · show n + 1 * 0 = n; omega
  · show 0 + 1 * a.val = a.val; omega

/-- A lookup in a table of packed pairs gives the packed pair of the entry that the word's low bits number. -/
theorem look_table (c : Dev nD) {R : ℕ} (A : Memref sig .tc .vmem ⟨2, ![R, 128]⟩ .i32) (f : Bf (F := Ideal) c A) (C : ℕ → ℕ → BitVec 16) (L : ℕ) (hL : L ≤ 25)
    (hC : ∀ (r : Fin R) (a : Fin 128), A.view.read (Elt Ideal) f (ix2 r a) = packed C (2 ^ L) r.val a.val)
    (w : ℕ) (hw : 2 ^ L * w + 2 ^ L ≤ R) (v : IVec S8x128 32) (s : Fin 8) (l : Fin 128) :
    look (rowOf c A f) v L (2 ^ L * w) (ix2 s l)
      = C ((v (ix2 s l)).toNat % (128 * 2 ^ L)) (2 * w + 1) ++ C ((v (ix2 s l)).toNat % (128 * 2 ^ L)) (2 * w) := by
  have hp : 0 < 2 ^ L := by positivity
  have hm : (v (ix2 s l)).toNat / 128 % 2 ^ L < 2 ^ L := Nat.mod_lt _ hp
  rw [look_apply _ _ _ _ _ hL, rowOf_apply c A f _ (by omega), hC]
  unfold packed
  dsimp only
  have e1 : (2 ^ L * w + (v (ix2 s l)).toNat / 128 % 2 ^ L) / 2 ^ L = w := by rw [Nat.mul_add_div hp, Nat.div_eq_of_lt hm, Nat.add_zero]
  have e2 : 128 * ((2 ^ L * w + (v (ix2 s l)).toNat / 128 % 2 ^ L) % 2 ^ L) + (v (ix2 s l)).toNat % 128 = (v (ix2 s l)).toNat % (128 * 2 ^ L) := by
    rw [Nat.mul_add_mod, Nat.mod_mod, Nat.mod_mul, Nat.add_comm]
  rw [e1, e2]

/-- A load of eight rows of a scale (or bias) array. -/
theorem read_rows (c : Dev nD) (A : Memref sig .tc .vmem S4160x128 .f32) (f : Bf (F := Ideal) c A) (off : Fin 2 → ℕ) (n : ℕ) (ho : off = ![n, 0]) (hn : n + 8 ≤ 4160)
    (h : ∀ a : Fin 2, off a + S8x128.size a ≤ S4160x128.size a) (s : Fin 8) (l : Fin 128) :
    shapeCast S8x128 (A.view.readAt (Elt Ideal) (Rect.unit (s := S4160x128) off S8x128.size h).toLoadRect f) shapeCasts_S8x128_S8x128 (ix2 s l)
      = A.view.read (Elt Ideal) f (ix2 ⟨n + s.val, by omega⟩ l) := by
  subst ho
  have e : ∀ v : S8x128.Idx → Ideal .f32, shapeCast S8x128 v shapeCasts_S8x128_S8x128 (ix2 s l) = v (ix2 s l) := fun v => by pointwise
  refine (e _).trans ?_
  rw [View.readAt_apply]
  refine congrArg (A.view.read (Elt Ideal) f) ?_
  funext b; refine Fin.ext ?_
  fin_cases b
  · show n + 1 * s.val = n + s.val; omega
  · show 0 + 1 * l.val = l.val; omega

/-- The rows of a scale (or bias) array for one field and component. -/
theorem perRow_apply (c : Dev nD) (A : Memref sig .tc .vmem S4160x128 .f32) (f : Bf (F := Ideal) c A) (k : Fin k0_t1_loop.trips) (r j : Fin 8) (s : Fin 8) (l : Fin 128) :
    perRow c A f k r j (ix2 s l) = A.view.read (Elt Ideal) f (ix2 ⟨64 * (8 * (k.val % 8) + r.val) + 8 * j.val + s.val, by omega⟩ l) :=
  read_rows c A f _ _ (off3_eq k r j) (by omega) _ s l

/-- Two blocks of eight rows interleaved. -/
theorem interleave_apply {α : Type} (lo hi : S8x128.Idx → α) (i : Fin 16) (l : Fin 128) :
    shapeCast S16x128 (interleaveRows S16x128 lo hi bitcasts_S16x128_w16_S8x128_w32) shapeCasts_S16x128_S16x128 (ix2 i l)
      = if i.val % 2 = 0 then lo (ix2 ⟨i.val / 2, by omega⟩ l) else hi (ix2 ⟨i.val / 2, by omega⟩ l) := by
  pointwise

/-- Component `j` of the vector in group `g` at sublane `s`, as the kernel computes it from its rows of scales and biases. -/
def rowRegular (W : ℕ → BitVec 32) (cm cr : ℕ → ℕ → BitVec 16) (S B : ℕ → EReal) (g s j : ℕ) : EReal :=
  (num (cm (fieldNat W (60 + 20 * (8 * (8 * (g / 8) + s) + g % 8)) 12) j) + num (cr (fieldNat W (72 + 20 * (8 * (8 * (g / 8) + s) + g % 8)) 8) j))
    * S (64 * g + 8 * j + s) + B (64 * g + 8 * j + s)

/-- The low halves of two packed words, added, scaled and shifted. -/
theorem combine_low (m e : IVec S8x128 32) (x y : FVec Ideal S8x128 .f32) (j : S8x128.Idx) {a1 a0 b1 b0 : BitVec 16} (hm : m j = a1 ++ a0) (he : e j = b1 ++ b0) :
    (truncf .bf16 (addf (mulf (addf (lowHalf m) (lowHalf e)) x) y) : FVec Ideal S8x128 .bf16) j = (num a0 + num b0) * x j + y j := by
  have h : ∀ (v : IVec S8x128 32) {p q : BitVec 16}, v j = p ++ q → (lowHalf v : FVec Ideal S8x128 .f32) j = num q := fun v p q hv =>
    (congrArg (fun z => Ideal.ofBits .f32 (IntOp.shli .vector z 16#32)) hv).trans (low_half q p)
  show ((lowHalf m : FVec Ideal S8x128 .f32) j + (lowHalf e : FVec Ideal S8x128 .f32) j) * x j + y j = _
  rw [h m hm, h e he]

/-- The high halves of two packed words, added, scaled and shifted. -/
theorem combine_high (m e : IVec S8x128 32) (x y : FVec Ideal S8x128 .f32) (j : S8x128.Idx) {a1 a0 b1 b0 : BitVec 16} (hm : m j = a1 ++ a0) (he : e j = b1 ++ b0) :
    (truncf .bf16 (addf (mulf (addf (highHalf m) (highHalf e)) x) y) : FVec Ideal S8x128 .bf16) j = (num a1 + num b1) * x j + y j := by
  have h : ∀ (v : IVec S8x128 32) {p q : BitVec 16}, v j = p ++ q → (highHalf v : FVec Ideal S8x128 .f32) j = num p := fun v p q hv =>
    (congrArg (fun z => Ideal.ofBits .f32 (z &&& 4294901760#32)) hv).trans (high_half q p)
  show ((highHalf m : FVec Ideal S8x128 .f32) j + (highHalf e : FVec Ideal S8x128 .f32) j) * x j + y j = _
  rw [h m hm, h e he]

/-- An entry of a block: the decoded weight. -/
theorem block_apply (c : Dev nD) (arg3 arg4 : Memref sig .tc .vmem S4160x128 .f32) (arg5 : Memref sig .tc .vmem S128x128 .i32)
    (arg6 : Memref sig .tc .vmem S8x128 .i32) (arg9 : Memref sig .tc .vmem S2x360x128 .i32)
    (f3 : Bf (F := Ideal) c arg3) (f4 : Bf (F := Ideal) c arg4) (f5 : Bf (F := Ideal) c arg5) (f6 : Bf (F := Ideal) c arg6) (f9 : Bf (F := Ideal) c arg9)
    (k : Fin k0_t1_loop.trips) (r : Fin 8) (w : Fin 4) (i : Fin 16) (l : Fin 128)
    (W : ℕ → BitVec 32) (cm cr : ℕ → ℕ → BitVec 16) (S B : ℕ → EReal)
    (h3 : ∀ (n : Fin 4160) (l : Fin 128), arg3.view.read (Elt Ideal) f3 (ix2 n l) = S n.val)
    (h4 : ∀ (n : Fin 4160) (l : Fin 128), arg4.view.read (Elt Ideal) f4 (ix2 n l) = B n.val)
    (h5 : ∀ (r a : Fin 128), arg5.view.read (Elt Ideal) f5 (ix2 r a) = packed cm 32 r.val a.val)
    (h6 : ∀ (r : Fin 8) (a : Fin 128), arg6.view.read (Elt Ideal) f6 (ix2 r a) = packed cr 2 r.val a.val)
    (h9 : ∀ n : Fin 360, arg9.view.read (Elt Ideal) f9 (ix3 (group k) n l) = W n.val) :
    block c arg3 arg4 arg5 arg6 arg9 f3 f4 f5 f6 f9 k r w (ix2 i l) = rowRegular W cm cr S B (8 * (k.val % 8) + r.val) (i.val / 2) (2 * w.val + i.val % 2) := by
  have hs : i.val / 2 < 8 := by omega
  have hg : 8 * (8 * ((8 * (k.val % 8) + r.val) / 8) + i.val / 2) + (8 * (k.val % 8) + r.val) % 8 = 8 * (8 * (k.val % 8) + i.val / 2) + r.val := by omega
  have bits : ∀ n < 20, (field c arg9 f9 k r (ix2 ⟨i.val / 2, hs⟩ l)).getLsbD n = bitAt W (60 + 20 * (8 * (8 * (k.val % 8) + i.val / 2) + r.val) + n) := field_bits c arg9 f9 k r ⟨i.val / 2, hs⟩ l W h9
  have m1 : (field c arg9 f9 k r (ix2 ⟨i.val / 2, hs⟩ l)).toNat % (128 * 2 ^ 5) = fieldNat W (60 + 20 * (8 * (8 * (k.val % 8) + i.val / 2) + r.val)) 12 :=
    toNat_mod_eq (width := 12) fun n hn => bits n (by omega)
  have m2 : ((shrui (field c arg9 f9 k r) (broadcast S8x128 12#32)) (ix2 ⟨i.val / 2, hs⟩ l)).toNat % (128 * 2 ^ 1) = fieldNat W (72 + 20 * (8 * (8 * (k.val % 8) + i.val / 2) + r.val)) 8 := by
    refine toNat_mod_eq (width := 8) fun n hn => ?_
    refine (congrArg (fun v => BitVec.getLsbD v n) (fld_apply (field c arg9 f9 k r) 12 (by omega) _)).trans ?_
    rw [BitVec.getLsbD_ushiftRight, bits _ (by omega)]
    exact congrArg (bitAt W) (by omega)
  have t1 : look (rowOf c (R := 128) arg5 f5) (field c arg9 f9 k r) 5 (32 * w.val) (ix2 ⟨i.val / 2, hs⟩ l) = _ :=
    look_table c (R := 128) arg5 f5 cm 5 (by omega) h5 w.val (by omega) (field c arg9 f9 k r) ⟨i.val / 2, hs⟩ l
  have t2 : look (rowOf c (R := 8) arg6 f6) (shrui (field c arg9 f9 k r) (broadcast S8x128 12#32)) 1 (2 * w.val) (ix2 ⟨i.val / 2, hs⟩ l) = _ :=
    look_table c (R := 8) arg6 f6 cr 1 (by omega) h6 w.val (by omega) (shrui (field c arg9 f9 k r) (broadcast S8x128 12#32)) ⟨i.val / 2, hs⟩ l
  rw [m1] at t1
  rw [m2] at t2
  unfold block rowRegular
  rw [hg]
  refine (interleave_apply _ _ i l).trans ?_
  by_cases h : i.val % 2 = 0
  · rw [if_pos h, h, Nat.add_zero]
    refine (combine_low _ _ _ _ _ t1 t2).trans ?_
    rw [perRow_apply, perRow_apply, h3, h4]
  · rw [if_neg h, show i.val % 2 = 1 by omega]
    refine (combine_high _ _ _ _ _ t1 t2).trans ?_
    rw [perRow_apply, perRow_apply, h3, h4]

end Cert.KernelIdeal.Decode

end
-- ==== Proof.Cut.lean ====
/-
  The reference's way of cutting a field out of a row of words, on one element.
-/
module

public import proofs.«01_k».proof.Proof.Words

@[expose] public section

namespace Cert.Decode

open Idealize.ShloMosaic

/-- An array of two axes as a function of two numbers, zero outside. -/
def at2 {R C : ℕ} {α : Type} [Zero α] (x : (⟨2, ![R, C]⟩ : Shape).Idx → α) (r c : ℕ) : α :=
  if h : r < R ∧ c < C then x (ix2 ⟨r, h.1⟩ ⟨c, h.2⟩) else 0

/-- Inside its bounds it is the array. -/
theorem at2_fin {R C : ℕ} {α : Type} [Zero α] (x : (⟨2, ![R, C]⟩ : Shape).Idx → α) (r : Fin R) (c : Fin C) : at2 x r.val c.val = x (ix2 r c) :=
  dif_pos ⟨r.isLt, c.isLt⟩

/-- An array of one axis as a function of a number, zero outside. -/
def at1 {C : ℕ} {α : Type} [Zero α] (x : (⟨1, ![C]⟩ : Shape).Idx → α) (c : ℕ) : α := if h : c < C then x (ix1 ⟨c, h⟩) else 0

/-- Inside its bounds it is the array. -/
theorem at1_fin {C : ℕ} {α : Type} [Zero α] (x : (⟨1, ![C]⟩ : Shape).Idx → α) (c : Fin C) : at1 x c.val = x (ix1 c) := dif_pos c.isLt

/-- An entry named by its indices is the entry named by their numbers. -/
theorem at2_eq {R C : ℕ} {α : Type} [Zero α] (x : (⟨2, ![R, C]⟩ : Shape).Idx → α) (r c : ℕ) (i : Fin R) (j : Fin C) (hi : i.val = r) (hj : j.val = c) :
    x (ix2 i j) = at2 x r c := by
  subst hi hj; exact (at2_fin x i j).symm

/-- The same with one axis. -/
theorem at1_eq {C : ℕ} {α : Type} [Zero α] (x : (⟨1, ![C]⟩ : Shape).Idx → α) (c : ℕ) (j : Fin C) (hj : j.val = c) : x (ix1 j) = at1 x c := by
  subst hj; exact (at1_fin x j).symm

/-- Past the end it is zero. -/
theorem at1_out {C : ℕ} {α : Type} [Zero α] (x : (⟨1, ![C]⟩ : Shape).Idx → α) (c : ℕ) (h : C ≤ c) : at1 x c = 0 := dif_neg (by omega)

/-- The quotient of a bit position by the word length. -/
theorem divui_toNat (o : BitVec 32) : (IntOp.divui .host o 32#32).toNat = o.toNat / 32 := by
  unfold IntOp.divui
  rw [if_neg (by decide), BitVec.toNat_udiv]; rfl

/-- The remainder of a bit position by the word length. -/
theorem remui_toNat (o : BitVec 32) : (IntOp.remui .host o 32#32).toNat = o.toNat % 32 := by
  unfold IntOp.remui
  rw [if_neg (by decide), BitVec.toNat_umod]; rfl

/-- A small number read as a signed one. -/
theorem toInt_small (v : BitVec 32) (h : v.toNat < 2 ^ 31) : v.toInt.toNat = v.toNat := by
  rw [BitVec.toInt_eq_toNat_of_lt (by omega)]; rfl

/-- A number that is not negative is left alone by the wrap of negative indices. -/
theorem wrap_small (v n : BitVec 32) (h : v.toNat < 2 ^ 31) : Scalar.select (IntOp.cmpi .slt v 0#32) (IntOp.addi v n) v = v := by
  have e : IntOp.cmpi .slt v 0#32 = 0#1 := by
    show BitVec.ofBool (v.slt 0#32) = 0#1
    have : v.slt 0#32 = false := by
      rw [BitVec.slt_eq_decide, BitVec.toInt_eq_toNat_of_lt (by omega)]
      simp
    rw [this]; rfl
  rw [e]; rfl

/-- The reference's field is the number the field's bits write. -/
theorem cut_host (X : Fin 319 → BitVec 32) (W : ℕ → BitVec 32) (hW : ∀ n : Fin 319, X n = W n.val) (o : BitVec 32) (off width : ℕ) (ho : o.toNat = off)
    (hoff : off + width ≤ 10208) (h0 : 0 < width) (hw : width < 32) (h1 : min (IntOp.divui .host o 32#32).toInt.toNat 318 < 319)
    (h2 : min (IntOp.minui (IntOp.addi (IntOp.divui .host o 32#32) 1#32) 318#32).toInt.toNat 318 < 319) :
    (IntOp.andi (IntOp.ori (IntOp.shrui .host (X ⟨min (IntOp.divui .host o 32#32).toInt.toNat 318, h1⟩) (IntOp.remui .host o 32#32))
      (Scalar.select (IntOp.cmpi .ugt (IntOp.addi (IntOp.remui .host o 32#32) (BitVec.ofNat 32 width)) 32#32)
        (IntOp.shli .host (X ⟨min (IntOp.minui (IntOp.addi (IntOp.divui .host o 32#32) 1#32) 318#32).toInt.toNat 318, h2⟩)
          (IntOp.remui .host (IntOp.subi 32#32 (IntOp.remui .host o 32#32)) 32#32)) 0#32))
      (BitVec.ofNat 32 (2 ^ width - 1))).toNat = fieldNat W off width := by
  have hq := divui_toNat o
  have hr := remui_toNat o
  rw [ho] at hq hr
  generalize IntOp.divui .host o 32#32 = q at hq h1 h2 ⊢
  generalize IntOp.remui .host o 32#32 = r at hr ⊢
  have hs : (IntOp.remui .host (IntOp.subi 32#32 r) 32#32).toNat = (32 - off % 32) % 32 := by
    rw [remui_toNat]
    show ((32#32) - r).toNat % 32 = _
    rw [BitVec.toNat_sub, hr, show (32#32).toNat = 32 by rfl]
    omega
  generalize IntOp.remui .host (IntOp.subi 32#32 r) 32#32 = s at hs ⊢
  have hc : IntOp.cmpi .ugt (IntOp.addi r (BitVec.ofNat 32 width)) 32#32 = BitVec.ofBool (decide (32 < off % 32 + width)) := by
    show BitVec.ofBool ((32#32).ult (r + BitVec.ofNat 32 width)) = _
    rw [BitVec.ult_eq_decide, BitVec.toNat_add, hr, BitVec.toNat_ofNat, BitVec.toNat_ofNat,
      show (off % 32 + width % 2 ^ 32) % 2 ^ 32 = off % 32 + width by omega]
  rw [hc]
  have e1 : X ⟨min q.toInt.toNat 318, h1⟩ = W (off / 32) := by
    rw [hW]
    refine congrArg W ?_
    show min q.toInt.toNat 318 = off / 32
    rw [toInt_small q (by omega), hq]; omega
  have e2 : IntOp.shrui .host (W (off / 32)) r = W (off / 32) >>> (off % 32) := by
    unfold IntOp.shrui
    rw [if_pos (by omega), BitVec.ushiftRight_eq', hr]
  rw [e1, e2]
  refine cut_toNat W off width _ (X ⟨min (IntOp.minui (IntOp.addi q 1#32) 318#32).toInt.toNat 318, h2⟩) _ hw rfl ?_ ?_
  · intro h
    rw [hW]
    refine congrArg W ?_
    show min (IntOp.minui (IntOp.addi q 1#32) 318#32).toInt.toNat 318 = off / 32 + 1
    have ha : (IntOp.addi q 1#32).toNat = off / 32 + 1 := by
      show (q + 1#32).toNat = _
      rw [BitVec.toNat_add, hq, show (1#32).toNat = 1 by rfl]; omega
    have hm : (IntOp.minui (IntOp.addi q 1#32) 318#32).toNat = off / 32 + 1 := by
      unfold IntOp.minui
      split
      · exact ha
      · rename_i hn
        rw [BitVec.ult_eq_decide, ha, show (318#32).toNat = 318 by rfl] at hn
        rw [show (318#32).toNat = 318 by rfl]
        simp only [decide_eq_true_eq] at hn
        omega
    rw [toInt_small _ (by omega), hm]; omega
  · by_cases h : 32 < off % 32 + width
    · rw [if_pos h, decide_eq_true h]
      show IntOp.shli .host _ s = _
      unfold IntOp.shli
      rw [if_pos (by omega), BitVec.shiftLeft_eq', hs, Nat.mod_eq_of_lt (show 32 - off % 32 < 32 by omega)]
    · rw [if_neg h, decide_eq_false h]
      rfl

end Cert.Decode
-- ==== Proof.Spec.lean ====
/-
  The weights the words and codebooks stand for, column by column, and the order in which the kernel goes through the
  columns.
-/
module

public import proofs.«01_k».proof.Proof.Words

@[expose] public section

noncomputable section

namespace Cert.Decode

/-- Component `j` of regular vector `f`: main codebook plus residual codebook, scaled and shifted per column. -/
def regular (w : ℕ → BitVec 32) (cm cr : ℕ → ℕ → EReal) (s b : ℕ → EReal) (f j : ℕ) : EReal :=
  (cm (fieldNat w (60 + 20 * f) 12) j + cr (fieldNat w (72 + 20 * f) 8) j) * s (48 + 8 * f + j) + b (48 + 8 * f + j)

/-- Component `j` of outlier vector `v`: the outlier codebook, scaled and shifted per column. -/
def outlier (w : ℕ → BitVec 32) (co : ℕ → ℕ → EReal) (s b : ℕ → EReal) (v j : ℕ) : EReal :=
  co (fieldNat w (10 * v) 10) j * s (8 * v + j) + b (8 * v + j)

/-- The weight of column `d`: six outlier vectors of eight columns, then the regular vectors. -/
def weight (w : ℕ → BitVec 32) (cm cr co : ℕ → ℕ → EReal) (s b : ℕ → EReal) (d : ℕ) : EReal :=
  if d < 48 then outlier w co s b (d / 8) (d % 8) else regular w cm cr s b ((d - 48) / 8) ((d - 48) % 8)

/-- The column of group `g`, component `j`, sublane `s` of the kernel's order; 4096 where the group is filled up. -/
def colAt (g j s : ℕ) : ℕ :=
  if g < 64 then
    if 8 * (8 * (g / 8) + s) + g % 8 < 506 then 48 + 8 * (8 * (8 * (g / 8) + s) + g % 8) + j else 4096
  else if s < 6 then 8 * s + j else 4096

/-- The column of row `k` of the kernel's weight array. -/
def colOf (k : ℕ) : ℕ := colAt (k / 64) (2 * (k % 64 / 16) + k % 2) (k % 16 / 2)

/-- The row of the kernel's weight array that holds column `d`. -/
def rowAt (d : ℕ) : ℕ :=
  if d < 48 then 4096 + 16 * (d % 8 / 2) + 2 * (d / 8) + d % 2
  else 64 * (8 * ((d - 48) / 8 / 64) + (d - 48) / 8 % 8) + 16 * ((d - 48) % 8 / 2) + 2 * ((d - 48) / 8 / 8 % 8) + (d - 48) % 2

/-- Every column has a row. -/
theorem rowAt_lt : ∀ d : Fin 4096, rowAt d.val < 4160 := by decide +kernel

/-- The row of a column holds that column. -/
theorem colOf_rowAt : ∀ d : Fin 4096, colOf (rowAt d.val) = d.val := by decide +kernel

/-- A row that holds a column is the row of that column. -/
theorem rowAt_colOf : ∀ k : Fin 4160, colOf k.val < 4096 → rowAt (colOf k.val) = k.val := by decide +kernel

/-- A sum over the kernel's rows is the sum over the columns: the rows that are filled up multiply by zero. -/
theorem sum_rows (x' W' : Fin 4160 → EReal) (x W : Fin 4096 → EReal)
    (hx : ∀ k : Fin 4160, x' k = if h : colOf k.val < 4096 then x ⟨colOf k.val, h⟩ else 0)
    (hW : ∀ (k : Fin 4160) (h : colOf k.val < 4096), W' k = W ⟨colOf k.val, h⟩) :
    ∑ k, x' k * W' k = ∑ d, x d * W d := by
  symm
  refine Finset.sum_of_injOn (fun d : Fin 4096 => (⟨rowAt d.val, rowAt_lt d⟩ : Fin 4160)) ?_ ?_ ?_ ?_
  · intro a _ b _ hab
    have h := congrArg (fun k : Fin 4160 => colOf k.val) hab
    simp only [colOf_rowAt] at h
    exact Fin.ext h
  · intro a _; exact Finset.mem_coe.mpr (Finset.mem_univ _)
  · intro k _ hk
    have hn : ¬ colOf k.val < 4096 := fun h => hk ⟨⟨colOf k.val, h⟩, Finset.mem_coe.mpr (Finset.mem_univ _), Fin.ext (rowAt_colOf k h)⟩
    rw [hx, dif_neg hn, zero_mul]
  · intro d _
    have hc : colOf (rowAt d.val) < 4096 := by rw [colOf_rowAt d]; exact d.isLt
    have e : (⟨colOf (rowAt d.val), hc⟩ : Fin 4096) = d := Fin.ext (colOf_rowAt d)
    show _ = x' _ * W' _
    rw [hx, hW _ hc, dif_pos hc, e]

end Cert.Decode

end
-- ==== Proof.Result.lean ====
/-
  What both programs compute: one entry of the product of the activations and the decoded weights.
-/
module

public import proofs.«01_k».proof.Proof.Cut
public import proofs.«01_k».proof.Proof.Spec
public import proofs.«01_k».proof.Proof.Halves

@[expose] public section

noncomputable section

namespace Cert.Decode

open Idealize.ShloMosaic

/-- Row `o` of the array of packed indices, as a row of words. -/
def words (idx : (⟨2, ![14336, 319]⟩ : Shape).Idx → BitVec 32) (o : ℕ) : ℕ → BitVec 32 := fun n => at2 idx o n

/-- The numbers a codebook of bit patterns stands for. -/
def nums {N : ℕ} (T : (⟨2, ![N, 8]⟩ : Shape).Idx → BitVec 16) : ℕ → ℕ → EReal := fun k j => num (at2 T k j)

/-- Entry `(r, o)` of the result: the activations of row `r` times the decoded weights of output column `o`. -/
def entry (x : (⟨3, ![3, 1, 4096]⟩ : Shape).Idx → EReal) (idx : (⟨2, ![14336, 319]⟩ : Shape).Idx → BitVec 32) (cm : (⟨2, ![4096, 8]⟩ : Shape).Idx → BitVec 16)
    (cr : (⟨2, ![256, 8]⟩ : Shape).Idx → BitVec 16) (co : (⟨2, ![1024, 8]⟩ : Shape).Idx → BitVec 16) (s b : (⟨1, ![4096]⟩ : Shape).Idx → EReal) (r : Fin 3) (o : ℕ) : EReal :=
  ∑ d : Fin 4096, x (ix3 r 0 d) * weight (words idx o) (nums cm) (nums cr) (nums co) (at1 s) (at1 b) d.val

end Cert.Decode

end
-- ==== Proof.KernelIdeal.HostVal.lean ====
/-
  The arrays the host lines hand the kernel, entry by entry.
-/
module

public import proofs.«01_k».proof.Proof.KernelIdeal.Host
public import proofs.«01_k».proof.Proof.KernelIdeal.BlockVal
public import proofs.«01_k».proof.Proof.Result
public import Idealize.ShloMosaic.Lib.BitcastConvert

@[expose] public section

noncomputable section

namespace Cert.KernelIdeal.Decode

open Cert.KernelIdeal Cert.KernelIdeal.Gen Cert.Decode
open Idealize.ShloMosaic Idealize.ShloMosaic.TcCoe
open Idealize.ShloMosaic.StableHlo

/-- Two neighbouring components of a codebook entry, packed. -/
theorem pack_eq {N : ℕ} (c : (⟨2, ![N, 8]⟩ : Shape).Idx → BitVec 16) (n r a : ℕ) (i i' : Fin N) (j j' : Fin 8) (hi : i.val = 128 * (r % n) + a) (hi' : i'.val = 128 * (r % n) + a)
    (hj : j.val = 2 * (r / n) + 1) (hj' : j'.val = 2 * (r / n)) : c (ix2 i j) ++ c (ix2 i' j') = packed (at2 c) n r a := by
  unfold packed
  rw [at2_eq c _ _ i j hi hj, at2_eq c _ _ i' j' hi' hj']

/-- The table of the main codebook. -/
theorem mainTable_apply (c : IVec S4096x8 16) (r a : Fin 128) : mainTable c (ix2 r a) = packed (at2 c) 32 r.val a.val := by
  unfold mainTable
  pointwise [Host.bitcastConvertWiden_apply_16_32]
  refine pack_eq c 32 r.val a.val _ _ _ _ ?_ ?_ ?_ ?_
  · show r.val % 32 * 128 + a.val = _; omega
  · show r.val % 32 * 128 + a.val = _; omega
  · show r.val / 32 * 2 + 1 = _; omega
  · show r.val / 32 * 2 + 0 = _; omega

/-- The table of the residual codebook. -/
theorem resTable_apply (c : IVec S256x8 16) (r : Fin 8) (a : Fin 128) : resTable c (ix2 r a) = packed (at2 c) 2 r.val a.val := by
  unfold resTable
  pointwise [Host.bitcastConvertWiden_apply_16_32]
  refine pack_eq c 2 r.val a.val _ _ _ _ ?_ ?_ ?_ ?_
  · show r.val % 2 * 128 + a.val = _; omega
  · show r.val % 2 * 128 + a.val = _; omega
  · show r.val / 2 * 2 + 1 = _; omega
  · show r.val / 2 * 2 + 0 = _; omega

/-- The table of the outlier codebook. -/
theorem outTable_apply (c : IVec S1024x8 16) (r : Fin 32) (a : Fin 128) : outTable c (ix2 r a) = packed (at2 c) 8 r.val a.val := by
  unfold outTable
  pointwise [Host.bitcastConvertWiden_apply_16_32]
  refine pack_eq c 8 r.val a.val _ _ _ _ ?_ ?_ ?_ ?_
  · show r.val % 8 * 128 + a.val = _; omega
  · show r.val % 8 * 128 + a.val = _; omega
  · show r.val / 8 * 2 + 1 = _; omega
  · show r.val / 8 * 2 + 0 = _; omega

/-- The number the pads write. -/
theorem pad_zero (fmt : FTy) (i : S_.Idx) : (sitofp fmt (constantI S_ 32 0#32) : FVec Ideal S_ fmt) i = (0 : EReal) := by
  show (((0#32 : BitVec 32).toInt : ℝ) : EReal) = 0
  simp

/-- The columns of the regular vectors, in groups: zero where a group is filled up. -/
theorem colRegular_apply (v : FVec Ideal S4096 .f32) (g : Fin 64) (j s : Fin 8) : colRegular v (ix3 g j s) = at1 (α := EReal) v (colAt g.val j.val s.val) := by
  unfold colRegular
  pointwise [pad_zero]
  unfold colAt
  rw [if_pos g.isLt]
  by_cases h : 8 * (8 * (g.val / 8) + s.val) + g.val % 8 < 506
  · rw [dif_pos (by omega), if_pos h]
    exact at1_eq (α := EReal) v _ _ (by dsimp only; omega)
  · rw [dif_neg (by omega), if_neg h]
    exact (at1_out (α := EReal) v _ le_rfl).symm

/-- The columns of the outlier vectors, one group: zero where it is filled up. -/
theorem colOutlier_apply (v : FVec Ideal S4096 .f32) (g : Fin 1) (j s : Fin 8) : colOutlier v (ix3 g j s) = at1 (α := EReal) v (colAt 64 j.val s.val) := by
  unfold colOutlier
  pointwise [pad_zero]
  unfold colAt
  rw [if_neg (by omega)]
  by_cases h : s.val < 6
  · rw [dif_pos h, if_pos h]
    exact at1_eq (α := EReal) v _ _ (by dsimp only; omega)
  · rw [dif_neg h, if_neg h]
    exact (at1_out (α := EReal) v _ le_rfl).symm

/-- The groups joined, flattened and repeated over the lanes. -/
theorem colShape_apply (A : FVec Ideal S64x8x8 .f32) (B : FVec Ideal S1x8x8 .f32) (n : Fin 4160) (l : Fin 128) :
    broadcastInDim S4160x128 ![0, 1] bcast_S4160x1_S4160x128_0_1
      (shapeCast S4160x1 (concatenate S65x8x8 0 [⟨S64x8x8, A⟩, ⟨S1x8x8, B⟩] concatenates_S64x8x8_S1x8x8_S65x8x8_d0) shapeCasts_S65x8x8_S4160x1) (ix2 n l)
      = if h : n.val / 64 < 64 then A (ix3 ⟨n.val / 64, h⟩ ⟨n.val / 8 % 8, by omega⟩ ⟨n.val % 8, by omega⟩) else B (ix3 0 ⟨n.val / 8 % 8, by omega⟩ ⟨n.val % 8, by omega⟩) := by
  pointwise
  by_cases h : n.val / 64 < 64
  · rw [dif_pos h, dif_pos h]
  · rw [dif_neg h, dif_neg h]
    exact congrArg (fun z => B (ix3 z _ _)) (Subsingleton.elim _ _)

/-- The kernel's rows of scales (or biases). -/
theorem colArray_apply (v : FVec Ideal S4096 .f32) (n : Fin 4160) (l : Fin 128) :
    colArray v (ix2 n l) = at1 (α := EReal) v (colAt (n.val / 64) (n.val / 8 % 8) (n.val % 8)) := by
  unfold colArray
  refine (colShape_apply _ _ n l).trans ?_
  by_cases h : n.val / 64 < 64
  · rw [dif_pos h]; exact colRegular_apply v ⟨n.val / 64, h⟩ ⟨n.val / 8 % 8, by omega⟩ ⟨n.val % 8, by omega⟩
  · rw [dif_neg h, show n.val / 64 = 64 by omega]; exact colOutlier_apply v 0 ⟨n.val / 8 % 8, by omega⟩ ⟨n.val % 8, by omega⟩

/-- The activations of row `b`, zero past the last column. -/
def atx (x : FVec Ideal S3x1x4096 .bf16) (b : Fin 3) (n : ℕ) : EReal := if h : n < 4096 then x (ix3 b 0 ⟨n, h⟩) else 0

/-- An activation named by its index is the activation named by its number. -/
theorem atx_eq (x : FVec Ideal S3x1x4096 .bf16) (b : Fin 3) (z : Fin 1) (n : ℕ) (j : Fin 4096) (hj : j.val = n) : x (ix3 b z j) = atx x b n := by
  subst hj
  obtain rfl : z = 0 := Subsingleton.elim _ _
  unfold atx
  rw [dif_pos j.isLt]

/-- The activations of the regular vectors, in groups: zero where a group is filled up. -/
theorem xRegular_apply (x : FVec Ideal S3x1x4096 .bf16) (b : Fin 3) (g : Fin 64) (j s : Fin 8) : xRegular x (ix4 b g j s) = atx x b (colAt g.val j.val s.val) := by
  unfold xRegular
  pointwise [pad_zero]
  unfold colAt
  rw [if_pos g.isLt]
  by_cases h : 8 * (8 * (g.val / 8) + s.val) + g.val % 8 < 506
  · rw [dif_pos (by omega), if_pos h]
    exact atx_eq x b _ _ _ (by dsimp only; omega)
  · rw [dif_neg (by omega), if_neg h]
    unfold atx
    rw [dif_neg (by omega)]

/-- The activations of the outlier vectors, one group: zero where it is filled up. -/
theorem xOutlier_apply (x : FVec Ideal S3x1x4096 .bf16) (b : Fin 3) (g : Fin 1) (j s : Fin 8) : xOutlier x (ix4 b g j s) = atx x b (colAt 64 j.val s.val) := by
  unfold xOutlier
  pointwise [pad_zero]
  unfold colAt
  rw [if_neg (by omega)]
  by_cases h : s.val < 6
  · rw [dif_pos h, if_pos h]
    exact atx_eq x b _ _ _ (by dsimp only; omega)
  · rw [dif_neg h, if_neg h]
    unfold atx
    rw [dif_neg (by omega)]

/-- The groups joined, reordered so that components two apart lie together, flattened and filled up to eight rows. -/
theorem xShape_apply (A : FVec Ideal S3x64x8x8 .bf16) (B : FVec Ideal S3x1x8x8 .bf16) (b : Fin 3) (k : Fin 4160) :
    pad S8x4160 ![0, 0] ![5, 0] ![0, 0]
    (shapeCast S3x4160 (transpose S3x65x4x8x2 [0, 1, 2, 4, 3]
      (shapeCast S3x65x4x2x8 (concatenate S3x65x8x8 1 [⟨S3x64x8x8, A⟩, ⟨S3x1x8x8, B⟩] concatenates_S3x64x8x8_S3x1x8x8_S3x65x8x8_d1)
        shapeCasts_S3x65x8x8_S3x65x4x2x8) transposes_S3x65x4x2x8_S3x65x4x8x2_0_1_2_4_3) shapeCasts_S3x65x4x8x2_S3x4160)
    (sitofp .bf16 (constantI S_ 32 0#32)) pads_S3x4160_S8x4160_050_000 h_S_ (ix2 ⟨b.val, by omega⟩ k)
      = if h : k.val / 64 < 64 then A (ix4 b ⟨k.val / 64, h⟩ ⟨k.val / 16 % 4 * 2 + k.val % 2, by omega⟩ ⟨k.val / 2 % 8, by omega⟩)
        else B (ix4 b 0 ⟨k.val / 16 % 4 * 2 + k.val % 2, by omega⟩ ⟨k.val / 2 % 8, by omega⟩) := by
  pointwise [pad_zero]
  by_cases h : k.val / 64 < 64
  · rw [dif_pos h, dif_pos h]
  · rw [dif_neg h, dif_neg h]
    exact congrArg (fun z => B (ix4 b z _ _)) (Subsingleton.elim _ _)

/-- The activations the kernel multiplies, in its order of rows. -/
theorem xArray_apply (x : FVec Ideal S3x1x4096 .bf16) (b : Fin 3) (k : Fin 4160) : xArray x (ix2 ⟨b.val, by omega⟩ k) = atx x b (colOf k.val) := by
  unfold xArray colOf
  refine (xShape_apply _ _ b k).trans ?_
  have e : ∀ g, colAt g (k.val / 16 % 4 * 2 + k.val % 2) (k.val / 2 % 8) = colAt g (2 * (k.val % 64 / 16) + k.val % 2) (k.val % 16 / 2) :=
    fun g => congrArg₂ (colAt g) (by omega) (by omega)
  rw [← e]
  by_cases h : k.val / 64 < 64
  · rw [dif_pos h]; exact xRegular_apply x b ⟨k.val / 64, h⟩ ⟨k.val / 16 % 4 * 2 + k.val % 2, by omega⟩ ⟨k.val / 2 % 8, by omega⟩
  · rw [dif_neg h, show k.val / 64 = 64 by omega]; exact xOutlier_apply x b 0 ⟨k.val / 16 % 4 * 2 + k.val % 2, by omega⟩ ⟨k.val / 2 % 8, by omega⟩

end Cert.KernelIdeal.Decode

end
-- ==== Proof.KernelIdeal.TripVal.lean ====
/-
  One trip of the decoding loop leaves exactly the 32 blocks of `Block.lean`.
-/
module

public import proofs.«01_k».proof.Proof.KernelIdeal.Block

@[expose] public section

noncomputable section

namespace Cert.KernelIdeal.Decode

open Cert.KernelIdeal Cert.KernelIdeal.Gen
open Idealize.ShloMosaic Idealize.ShloMosaic.TcCoe

variable {F : FTy → Type} [FloatOps F]

set_option maxHeartbeats 0 in
/-- One trip leaves exactly these blocks over what the scratch held. -/
theorem tripRun_val (c : Dev nD) (i : grid0.Coords) (arg1 : Memref sig .tc .vmem S256x319 .i32) (harg1 : arg1.IsWhole) (arg2 : Memref sig .tc .vmem S8x4160 .bf16) (harg2 : arg2.IsWhole)
    (arg3 : Memref sig .tc .vmem S4160x128 .f32) (harg3 : arg3.IsWhole) (arg4 : Memref sig .tc .vmem S4160x128 .f32) (harg4 : arg4.IsWhole)
    (arg5 : Memref sig .tc .vmem S128x128 .i32) (harg5 : arg5.IsWhole) (arg6 : Memref sig .tc .vmem S8x128 .i32) (harg6 : arg6.IsWhole)
    (arg7 : Memref sig .tc .vmem S32x128 .i32) (harg7 : arg7.IsWhole) (arg8 : Memref sig .tc .vmem S8x256 .bf16) (harg8 : arg8.IsWhole)
    (arg9 : Memref sig .tc .vmem S2x360x128 .i32) (harg9 : arg9.IsWhole) (arg10 : Memref sig .tc .vmem S4160x256 .bf16) (harg10 : arg10.IsWhole)
    (k : Fin k0_t1_loop.trips)
    (f3 : Bf (F := F) c arg3) (f4 : Bf (F := F) c arg4) (f5 : Bf (F := F) c arg5) (f6 : Bf (F := F) c arg6) (f9 : Bf (F := F) c arg9) (f10 : Bf (F := F) c arg10) :
    (tripRun c i arg1 harg1 arg2 harg2 arg3 harg3 arg4 harg4 arg5 harg5 arg6 harg6 arg7 harg7 arg8 harg8 arg9 harg9 arg10 harg10 k f3 f4 f5 f6 f9 f10).1 = arg10.view.writes (Elt F) f10 (pieces c arg3 arg4 arg5 arg6 arg9 f3 f4 f5 f6 f9 k) := by
  rfl

end Cert.KernelIdeal.Decode

end
-- ==== Proof.KernelIdeal.BodyVal.lean ====
/-
  The kernel body in closed form: what the prologue leaves in the words' scratch, what the tail stores for the first,
  shorter group, and the block of results the body writes.
-/
module

public import proofs.«01_k».proof.Proof.KernelIdeal.TripVal
public import proofs.«01_k».proof.Proof.KernelIdeal.Body

@[expose] public section

noncomputable section

namespace Cert.KernelIdeal.Decode

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What the prologue stores into the words' scratch, the last stored first: the words transposed, zeros behind them. -/
def prologue (c : Dev nD) (arg1 : Memref sig .tc .vmem S256x319 .i32) (f1 : Bf (F := F) c arg1) : List (View.Piece (Elt F) S2x360x128 .i32) :=
  [⟨Rect.unit (s := S2x360x128) ![1, 319, 0] S1x41x128.size inb_S2x360x128_S1x41x128_1_319_0, k0_pay711⟩,
   ⟨Rect.unit (s := S2x360x128) ![1, 0, 0] S1x319x128.size inb_S2x360x128_S1x319x128_1_0_0, k0_pay710 (View.readAt (Elt F) arg1.view (Rect.unit (s := S256x319) ![128, 0] S128x319.size inb_S256x319_S128x319_128_0).toLoadRect f1)⟩,
   ⟨Rect.unit (s := S2x360x128) ![0, 319, 0] S1x41x128.size inb_S2x360x128_S1x41x128_0_319_0, k0_pay709⟩,
   ⟨Rect.unit (s := S2x360x128) ![0, 0, 0] S1x319x128.size inb_S2x360x128_S1x319x128_0_0_0, k0_pay708 (View.readAt (Elt F) arg1.view (Rect.unit (s := S256x319) ![0, 0] S128x319.size inb_S256x319_S128x319_0_0).toLoadRect f1)⟩]

/-- The first two rows of a lane group lie in the words' scratch. -/
theorem firstRow_inb (lg q : Fin 2) : ∀ a : Fin 3, (![lg.val, q.val, 0] : Fin 3 → ℕ) a + S1x1x128.size a ≤ S2x360x128.size a := by
  intro a; revert lg q; revert a; decide

/-- Word `q` of the rows of lane group `lg`, for the first two words. -/
def firstRow (c : Dev nD) (arg1 : Memref sig .tc .vmem S256x319 .i32) (arg9 : Memref sig .tc .vmem S2x360x128 .i32) (f1 : Bf (F := F) c arg1) (lg q : Fin 2) : IVec S1x128 32 :=
  shapeCast S1x128 (arg9.view.readCov (prologue c arg1 f1) (Rect.unit (s := S2x360x128) ![lg.val, q.val, 0] S1x1x128.size (firstRow_inb lg q)).toLoadRect) shapeCasts_S1x1x128_S1x128

/-- The words whose low ten bits are the six outlier fields, one per sublane; the last two sublanes are zero. -/
def tailField (c : Dev nD) (arg1 : Memref sig .tc .vmem S256x319 .i32) (arg9 : Memref sig .tc .vmem S2x360x128 .i32) (f1 : Bf (F := F) c arg1) (lg : Fin 2) : IVec S8x128 32 :=
  concatenate S8x128 0 [⟨S1x128, shrui (firstRow c arg1 arg9 f1 lg 0) (broadcast S1x128 0#32)⟩, ⟨S1x128, shrui (firstRow c arg1 arg9 f1 lg 0) (broadcast S1x128 10#32)⟩,
    ⟨S1x128, shrui (firstRow c arg1 arg9 f1 lg 0) (broadcast S1x128 20#32)⟩,
    ⟨S1x128, ori (shrui (firstRow c arg1 arg9 f1 lg 0) (broadcast S1x128 30#32)) (shli (firstRow c arg1 arg9 f1 lg 1) (broadcast S1x128 2#32))⟩,
    ⟨S1x128, shrui (firstRow c arg1 arg9 f1 lg 1) (broadcast S1x128 8#32)⟩, ⟨S1x128, shrui (firstRow c arg1 arg9 f1 lg 1) (broadcast S1x128 18#32)⟩,
    ⟨S1x128, broadcast S1x128 0#32⟩, ⟨S1x128, broadcast S1x128 0#32⟩] concatenates_S1x128_S1x128_S1x128_S1x128_S1x128_S1x128_S1x128_S1x128_S8x128_d0

/-- The eight rows of component `j` of the last group lie in the scale (or bias) array. -/
theorem tailRow_inb (j : Fin 8) : ∀ a : Fin 2, (![4096 + 8 * j.val, 0] : Fin 2 → ℕ) a + S8x128.size a ≤ S4160x128.size a := by
  intro a; fin_cases a
  · show 4096 + 8 * j.val + 8 ≤ 4160; omega
  · exact le_refl _

/-- The eight rows of a scale (or bias) array for component `j` of the last group. -/
def tailPerRow (c : Dev nD) (A : Memref sig .tc .vmem S4160x128 .f32) (f : Bf (F := F) c A) (j : Fin 8) : FVec F S8x128 .f32 :=
  shapeCast S8x128 (A.view.readAt (Elt F) (Rect.unit (s := S4160x128) ![4096 + 8 * j.val, 0] S8x128.size (tailRow_inb j)).toLoadRect f) shapeCasts_S8x128_S8x128

/-- The 16 by 128 block of outlier weights of lane group `lg` and component pair `w`. -/
def tailBlock (c : Dev nD) (arg1 : Memref sig .tc .vmem S256x319 .i32) (arg3 arg4 : Memref sig .tc .vmem S4160x128 .f32) (arg7 : Memref sig .tc .vmem S32x128 .i32)
    (arg9 : Memref sig .tc .vmem S2x360x128 .i32) (f1 : Bf (F := F) c arg1) (f3 : Bf (F := F) c arg3) (f4 : Bf (F := F) c arg4) (f7 : Bf (F := F) c arg7)
    (lg : Fin 2) (w : Fin 4) : FVec F S16x128 .bf16 :=
  let m := look (rowOf c arg7 f7) (tailField c arg1 arg9 f1 lg) 3 (8 * w.val)
  let lo : FVec F S8x128 .f32 := addf (mulf (lowHalf m) (tailPerRow c arg3 f3 ⟨2 * w.val, by omega⟩)) (tailPerRow c arg4 f4 ⟨2 * w.val, by omega⟩)
  let hi : FVec F S8x128 .f32 := addf (mulf (highHalf m) (tailPerRow c arg3 f3 ⟨2 * w.val + 1, by omega⟩)) (tailPerRow c arg4 f4 ⟨2 * w.val + 1, by omega⟩)
  shapeCast S16x128 (interleaveRows S16x128 (truncf .bf16 lo) (truncf .bf16 hi) bitcasts_S16x128_w16_S8x128_w32) shapeCasts_S16x128_S16x128

/-- The block of lane group `lg` and pair `w` lies in the weight scratch. -/
theorem tail_inb (lg : Fin 2) (w : Fin 4) : ∀ a : Fin 2, (![4096 + 16 * w.val, 128 * lg.val] : Fin 2 → ℕ) a + S16x128.size a ≤ S4160x256.size a := by
  intro a; fin_cases a
  · show 4096 + 16 * w.val + 16 ≤ 4160; omega
  · show 128 * lg.val + 128 ≤ 256; omega

/-- The block of lane group `lg` and pair `w`, as a store into the weight scratch. -/
def tailPiece (c : Dev nD) (arg1 : Memref sig .tc .vmem S256x319 .i32) (arg3 arg4 : Memref sig .tc .vmem S4160x128 .f32) (arg7 : Memref sig .tc .vmem S32x128 .i32)
    (arg9 : Memref sig .tc .vmem S2x360x128 .i32) (f1 : Bf (F := F) c arg1) (f3 : Bf (F := F) c arg3) (f4 : Bf (F := F) c arg4) (f7 : Bf (F := F) c arg7)
    (lg : Fin 2) (w : Fin 4) : View.Piece (Elt F) S4160x256 .bf16 :=
  ⟨Rect.unit (s := S4160x256) ![4096 + 16 * w.val, 128 * lg.val] S16x128.size (tail_inb lg w), tailBlock c arg1 arg3 arg4 arg7 arg9 f1 f3 f4 f7 lg w⟩

/-- What the tail stores, the last stored first. -/
def tailPieces (c : Dev nD) (arg1 : Memref sig .tc .vmem S256x319 .i32) (arg3 arg4 : Memref sig .tc .vmem S4160x128 .f32) (arg7 : Memref sig .tc .vmem S32x128 .i32)
    (arg9 : Memref sig .tc .vmem S2x360x128 .i32) (f1 : Bf (F := F) c arg1) (f3 : Bf (F := F) c arg3) (f4 : Bf (F := F) c arg4) (f7 : Bf (F := F) c arg7) :
    List (View.Piece (Elt F) S4160x256 .bf16) :=
  ([1, 0] : List (Fin 2)).flatMap fun lg => ([3, 2, 1, 0] : List (Fin 4)).map fun w => tailPiece c arg1 arg3 arg4 arg7 arg9 f1 f3 f4 f7 lg w

/-- The weight scratch when the product reads it. -/
def weights (c : Dev nD) (i : grid0.Coords) (arg1 : Memref sig .tc .vmem S256x319 .i32) (harg1 : arg1.IsWhole) (arg2 : Memref sig .tc .vmem S8x4160 .bf16) (harg2 : arg2.IsWhole)
    (arg3 : Memref sig .tc .vmem S4160x128 .f32) (harg3 : arg3.IsWhole) (arg4 : Memref sig .tc .vmem S4160x128 .f32) (harg4 : arg4.IsWhole)
    (arg5 : Memref sig .tc .vmem S128x128 .i32) (harg5 : arg5.IsWhole) (arg6 : Memref sig .tc .vmem S8x128 .i32) (harg6 : arg6.IsWhole)
    (arg7 : Memref sig .tc .vmem S32x128 .i32) (harg7 : arg7.IsWhole) (arg8 : Memref sig .tc .vmem S8x256 .bf16) (harg8 : arg8.IsWhole)
    (arg9 : Memref sig .tc .vmem S2x360x128 .i32) (harg9 : arg9.IsWhole) (arg10 : Memref sig .tc .vmem S4160x256 .bf16) (harg10 : arg10.IsWhole)
    (f1 : Bf (F := F) c arg1) (f3 : Bf (F := F) c arg3) (f4 : Bf (F := F) c arg4) (f5 : Bf (F := F) c arg5)
    (f6 : Bf (F := F) c arg6) (f7 : Bf (F := F) c arg7) (f10 : Bf (F := F) c arg10) : Bf (F := F) c arg10 :=
  arg10.view.writes (Elt F)
    (afterTrips c i arg1 harg1 arg2 harg2 arg3 harg3 arg4 harg4 arg5 harg5 arg6 harg6 arg7 harg7 arg8 harg8 arg9 harg9 arg10 harg10 f3 f4 f5 f6 (arg9.view.writes (Elt F) arg9.view.junk (prologue c arg1 f1)) f10 k0_t1_loop.trips)
    (tailPieces c arg1 arg3 arg4 arg7 arg9 f1 f3 f4 f7)

/-- The product of the activations and the weights, rounded to the result's format. -/
def product (x : FVec F S8x4160 .bf16) (W : FVec F S4160x256 .bf16) : FVec F S8x256 .bf16 :=
  truncf .bf16 (matmul dot_S8x4160_S4160x256_S8x256_1_0_0_1_n_n none x W (constant S8x256 .f32 0#32))

set_option maxHeartbeats 0 in
/-- The body leaves in the result block the product of the activations and the weight scratch. -/
theorem bodyRun_val (c : Dev nD) (i : grid0.Coords) (arg1 : Memref sig .tc .vmem S256x319 .i32) (harg1 : arg1.IsWhole) (arg2 : Memref sig .tc .vmem S8x4160 .bf16) (harg2 : arg2.IsWhole)
    (arg3 : Memref sig .tc .vmem S4160x128 .f32) (harg3 : arg3.IsWhole) (arg4 : Memref sig .tc .vmem S4160x128 .f32) (harg4 : arg4.IsWhole)
    (arg5 : Memref sig .tc .vmem S128x128 .i32) (harg5 : arg5.IsWhole) (arg6 : Memref sig .tc .vmem S8x128 .i32) (harg6 : arg6.IsWhole)
    (arg7 : Memref sig .tc .vmem S32x128 .i32) (harg7 : arg7.IsWhole) (arg8 : Memref sig .tc .vmem S8x256 .bf16) (harg8 : arg8.IsWhole)
    (arg9 : Memref sig .tc .vmem S2x360x128 .i32) (harg9 : arg9.IsWhole) (arg10 : Memref sig .tc .vmem S4160x256 .bf16) (harg10 : arg10.IsWhole)
    (f1 : Bf (F := F) c arg1) (f2 : Bf (F := F) c arg2) (f3 : Bf (F := F) c arg3) (f4 : Bf (F := F) c arg4) (f5 : Bf (F := F) c arg5)
    (f6 : Bf (F := F) c arg6) (f7 : Bf (F := F) c arg7) (f8 : Bf (F := F) c arg8) (f9 : Bf (F := F) c arg9) (f10 : Bf (F := F) c arg10) :
    (bodyRun c i arg1 harg1 arg2 harg2 arg3 harg3 arg4 harg4 arg5 harg5 arg6 harg6 arg7 harg7 arg8 harg8 arg9 harg9 arg10 harg10 f1 f2 f3 f4 f5 f6 f7 f8 f9 f10).1.1
      = arg8.view.writes (Elt F) f8 [⟨Rect.unit (s := S8x256) ![0, 0] S8x256.size inb_S8x256_S8x256_0_0,
          product (shapeCast S8x4160 (View.readAt (Elt F) arg2.view (Rect.unit (s := S8x4160) ![0, 0] S8x4160.size inb_S8x4160_S8x4160_0_0).toLoadRect f2) shapeCasts_S8x4160_S8x4160)
            (View.readAt (Elt F) arg10.view (Rect.unit (s := S4160x256) ![0, 0] S4160x256.size inb_S4160x256_S4160x256_0_0).toLoadRect
              (weights c i arg1 harg1 arg2 harg2 arg3 harg3 arg4 harg4 arg5 harg5 arg6 harg6 arg7 harg7 arg8 harg8 arg9 harg9 arg10 harg10 f1 f3 f4 f5 f6 f7 f10))⟩] := by
  rfl

end Cert.KernelIdeal.Decode

end
-- ==== Proof.Pieces.lean ====
/-
  Reading a buffer written piece by piece, where every piece agrees with one array.
-/
module

public import Idealize.ShloMosaic.Lib.Writes
public import Idealize.ShloMosaic.Lib.WritesUnit

@[expose] public section

namespace Cert.Decode

open Idealize.ShloMosaic

/-- Where a piece covers an index, or the buffer held the array's value there before, the buffer reads the array's value. -/
theorem read_writes_agree {sig : RefSig} {κ : Kind} {sp : Space} {s : Shape} {e : EltTy} {Val : EltTy → Type}
    (v : View sig κ sp s e) (f : v.ty.Contents Val) (L : List (View.Piece Val s e)) (G : s.Idx → Val e)
    (hL : ∀ p ∈ L, ∀ x, p.2 x = G (p.1.emb x)) (y : s.Idx) (hy : (∃ p ∈ L, y ∈ p.1.set) ∨ v.read Val f y = G y) :
    v.read Val (v.writes Val f L) y = G y := by
  induction L with
  | nil => exact hy.elim (fun ⟨p, hp, _⟩ => absurd hp List.not_mem_nil) id
  | cons p L ih =>
    by_cases hm : y ∈ p.1.set
    · obtain ⟨x, rfl⟩ : ∃ x, p.1.emb x = y := by
        have h := hm
        rw [← Rect.map_emb_univ] at h
        simpa using h
      obtain ⟨r, w⟩ := p
      rw [View.read_writes_cons_emb]
      exact hL _ List.mem_cons_self x
    · rw [View.writes_cons, View.read_slice_write_of_not_mem _ _ _ _ (by rwa [Rect.map_emb_univ])]
      refine ih (fun q hq => hL q (List.mem_cons_of_mem _ hq)) (hy.imp_left ?_)
      rintro ⟨q, hq, hqy⟩
      rcases List.mem_cons.mp hq with rfl | hq
      · exact absurd hqy hm
      · exact ⟨q, hq, hqy⟩

end Cert.Decode
-- ==== Proof.KernelIdeal.TailVal.lean ====
/-
  The transposed words the prologue leaves, and the blocks of outlier weights the tail stores, entry by entry.
-/
module

public import proofs.«01_k».proof.Proof.KernelIdeal.BlockVal
public import proofs.«01_k».proof.Proof.KernelIdeal.BodyVal
public import proofs.«01_k».proof.Proof.Pieces

@[expose] public section

noncomputable section

namespace Cert.KernelIdeal.Decode

open Cert.KernelIdeal Cert.KernelIdeal.Gen Cert.Decode
open Idealize.ShloMosaic Idealize.ShloMosaic.TcCoe

/-- The words' scratch as one array: lane group, word, lane. -/
def scratchWords (W : ℕ → ℕ → BitVec 32) : S2x360x128.Idx → BitVec 32 := fun y => W (128 * (y 0).val + (y 2).val) (y 1).val

/-- One lane group's words, transposed. -/
theorem pay_apply (v : IVec S128x319 32) (a : Fin 1) (n : Fin 319) (l : Fin 128) :
    shapeCast S1x319x128 (transpose S319x128 [1, 0] v transposes_S128x319_p1_0_S319x128) shapeCasts_S319x128_S1x319x128 (ix3 a n l) = v (ix2 l n) := by
  pointwise

/-- What the first store of the words writes. -/
theorem pay710_apply (v : Vec Ideal S128x319 .i32) (a : Fin 1) (n : Fin 319) (l : Fin 128) : k0_pay710 (F := Ideal) v (ix3 a n l) = v (ix2 l n) := pay_apply v a n l

/-- What the second store of the words writes. -/
theorem pay708_apply (v : Vec Ideal S128x319 .i32) (a : Fin 1) (n : Fin 319) (l : Fin 128) : k0_pay708 (F := Ideal) v (ix3 a n l) = v (ix2 l n) := pay_apply v a n l

/-- The prologue leaves word `n` of row `128 lg + l` at lane group `lg`, row `n`, lane `l`. -/
theorem prologue_read (c : Dev nD) (arg1 : Memref sig .tc .vmem S256x319 .i32) (arg9 : Memref sig .tc .vmem S2x360x128 .i32) (f1 : Bf (F := Ideal) c arg1) (f : Bf (F := Ideal) c arg9)
    (W : ℕ → ℕ → BitVec 32) (h1 : ∀ (o : Fin 256) (n : Fin 319), arg1.view.read (Elt Ideal) f1 (ix2 o n) = W o.val n.val) (h0 : ∀ o n, 319 ≤ n → W o n = 0#32)
    (lg : Fin 2) (n : Fin 360) (l : Fin 128) :
    arg9.view.read (Elt Ideal) (arg9.view.writes (Elt Ideal) f (prologue c arg1 f1)) (ix3 lg n l) = W (128 * lg.val + l.val) n.val := by
  refine read_writes_agree arg9.view f (prologue c arg1 f1) (scratchWords W) ?_ (ix3 lg n l) (Or.inl ?_)
  · intro p hp x
    have zero : ∀ (g : ℕ) (l : ℕ) (n : ℕ), 0#32 = W (128 * (g + 1 * 0) + (0 + 1 * l)) (319 + 1 * n) := fun g l n => (h0 _ _ (by omega)).symm
    unfold prologue at hp
    rcases List.mem_cons.mp hp with rfl | hp
    · have : ((Rect.unit (s := S2x360x128) ![1, 319, 0] S1x41x128.size inb_S2x360x128_S1x41x128_1_319_0).emb x 1).val = 319 + 1 * (x 1).val := rfl
      exact (h0 _ _ (by rw [this]; omega)).symm
    rcases List.mem_cons.mp hp with rfl | hp
    · obtain ⟨a, n, l, rfl⟩ : ∃ (a : Fin 1) (n : Fin 319) (l : Fin 128), x = ix3 a n l := ⟨x 0, x 1, x 2, by funext b; fin_cases b <;> rfl⟩
      dsimp only
      refine (pay710_apply _ a n l).trans ?_
      rw [View.readAt_apply]
      have e := h1 ⟨128 + l.val, by omega⟩ n
      refine Eq.trans (congrArg _ ?_) (e.trans ?_)
      · funext b; refine Fin.ext ?_
        fin_cases b
        · show 128 + 1 * l.val = 128 + l.val; omega
        · show 0 + 1 * n.val = n.val; omega
      · show W (128 + l.val) n.val = W (128 * (1 + 1 * a.val) + (0 + 1 * l.val)) (0 + 1 * n.val)
        congr 1 <;> omega
    rcases List.mem_cons.mp hp with rfl | hp
    · have : ((Rect.unit (s := S2x360x128) ![0, 319, 0] S1x41x128.size inb_S2x360x128_S1x41x128_0_319_0).emb x 1).val = 319 + 1 * (x 1).val := rfl
      exact (h0 _ _ (by rw [this]; omega)).symm
    rcases List.mem_cons.mp hp with rfl | hp
    · obtain ⟨a, n, l, rfl⟩ : ∃ (a : Fin 1) (n : Fin 319) (l : Fin 128), x = ix3 a n l := ⟨x 0, x 1, x 2, by funext b; fin_cases b <;> rfl⟩
      dsimp only
      refine (pay708_apply _ a n l).trans ?_
      rw [View.readAt_apply]
      have e := h1 ⟨l.val, by omega⟩ n
      refine Eq.trans (congrArg _ ?_) (e.trans ?_)
      · funext b; refine Fin.ext ?_
        fin_cases b
        · show 0 + 1 * l.val = l.val; omega
        · show 0 + 1 * n.val = n.val; omega
      · show W l.val n.val = W (128 * (0 + 1 * a.val) + (0 + 1 * l.val)) (0 + 1 * n.val)
        congr 1 <;> omega
    · exact absurd hp List.not_mem_nil
  · have mem : ∀ (g b m : ℕ) (h : ∀ a, (![g, b, 0] : Fin 3 → ℕ) a + (![1, m, 128] : Fin 3 → ℕ) a ≤ S2x360x128.size a), lg.val = g → b ≤ n.val → n.val < b + m →
        (ix3 lg n l : S2x360x128.Idx) ∈ (Rect.unit (s := S2x360x128) ![g, b, 0] ![1, m, 128] h).set := fun g b m h hg hb hm => by
      refine (LoadRect.mem_set _).mpr fun a => ?_
      fin_cases a
      · exact ⟨0, by show 0 < 1; omega, by show lg.val = g + 1 * 0; omega⟩
      · exact ⟨n.val - b, by show n.val - b < m; omega, by show n.val = b + 1 * (n.val - b); omega⟩
      · exact ⟨l.val, l.isLt, by show l.val = 0 + 1 * l.val; omega⟩
    unfold prologue
    by_cases hg : lg.val = 0
    · by_cases hn : n.val < 319
      · exact ⟨_, List.mem_cons_of_mem _ (List.mem_cons_of_mem _ (List.mem_cons_of_mem _ List.mem_cons_self)), mem 0 0 319 inb_S2x360x128_S1x319x128_0_0_0 hg (by omega) (by omega)⟩
      · exact ⟨_, List.mem_cons_of_mem _ (List.mem_cons_of_mem _ List.mem_cons_self), mem 0 319 41 inb_S2x360x128_S1x41x128_0_319_0 hg (by omega) (by omega)⟩
    · by_cases hn : n.val < 319
      · exact ⟨_, List.mem_cons_of_mem _ List.mem_cons_self, mem 1 0 319 inb_S2x360x128_S1x319x128_1_0_0 (by omega) (by omega) (by omega)⟩
      · exact ⟨_, List.mem_cons_self, mem 1 319 41 inb_S2x360x128_S1x41x128_1_319_0 (by omega) (by omega) (by omega)⟩

/-- Word `q` of the rows of a lane group. -/
theorem firstRow_apply (c : Dev nD) (arg1 : Memref sig .tc .vmem S256x319 .i32) (arg9 : Memref sig .tc .vmem S2x360x128 .i32) (f1 : Bf (F := Ideal) c arg1)
    (W : ℕ → ℕ → BitVec 32) (h1 : ∀ (o : Fin 256) (n : Fin 319), arg1.view.read (Elt Ideal) f1 (ix2 o n) = W o.val n.val) (h0 : ∀ o n, 319 ≤ n → W o n = 0#32)
    (lg q : Fin 2) (l : Fin 128) : firstRow c arg1 arg9 f1 lg q (ix2 0 l) = W (128 * lg.val + l.val) q.val := by
  have e : ∀ v : S1x1x128.Idx → BitVec 32, shapeCast S1x128 v shapeCasts_S1x1x128_S1x128 (ix2 0 l) = v (ix3 0 0 l) := fun v => by pointwise
  unfold firstRow View.readCov
  refine (e _).trans ?_
  rw [View.readAt_apply]
  refine Eq.trans (congrArg _ ?_) (prologue_read c arg1 arg9 f1 _ W h1 h0 lg ⟨q.val, by omega⟩ l)
  funext b; refine Fin.ext ?_
  fin_cases b
  · show lg.val + 1 * 0 = lg.val; omega
  · show q.val + 1 * 0 = q.val; omega
  · show 0 + 1 * l.val = l.val; omega

/-- Eight rows put together. -/
theorem rows_apply (v : Fin 8 → IVec S1x128 32) (s : Fin 8) (l : Fin 128) :
    concatenate S8x128 0 [⟨S1x128, v 0⟩, ⟨S1x128, v 1⟩, ⟨S1x128, v 2⟩, ⟨S1x128, v 3⟩, ⟨S1x128, v 4⟩, ⟨S1x128, v 5⟩, ⟨S1x128, v 6⟩, ⟨S1x128, v 7⟩]
      concatenates_S1x128_S1x128_S1x128_S1x128_S1x128_S1x128_S1x128_S1x128_S8x128_d0 (ix2 s l) = v s (ix2 0 l) := by
  fin_cases s <;> pointwise

/-- The six outlier fields of a row, zero for the last two sublanes. -/
def outlierIndex (W : ℕ → BitVec 32) (s : ℕ) : ℕ := if s < 6 then fieldNat W (10 * s) 10 else 0

/-- The field the last part of the body looks up, in the bits the lookup uses. -/
theorem tailField_mod (c : Dev nD) (arg1 : Memref sig .tc .vmem S256x319 .i32) (arg9 : Memref sig .tc .vmem S2x360x128 .i32) (f1 : Bf (F := Ideal) c arg1)
    (W : ℕ → ℕ → BitVec 32) (h1 : ∀ (o : Fin 256) (n : Fin 319), arg1.view.read (Elt Ideal) f1 (ix2 o n) = W o.val n.val) (h0 : ∀ o n, 319 ≤ n → W o n = 0#32)
    (lg : Fin 2) (s : Fin 8) (l : Fin 128) : (tailField c arg1 arg9 f1 lg (ix2 s l)).toNat % (128 * 2 ^ 3) = outlierIndex (W (128 * lg.val + l.val)) s.val := by
  have e := fun q => firstRow_apply c arg1 arg9 f1 W h1 h0 lg q l
  have shr : ∀ (x : BitVec 32) (n : ℕ), n < 32 → IntOp.shrui .vector x (BitVec.ofNat 32 n) = x >>> n := fun x n h => by
    have e : (BitVec.ofNat 32 n).toNat = n := by rw [BitVec.toNat_ofNat]; omega
    unfold IntOp.shrui
    rw [e, if_pos h, BitVec.ushiftRight_eq', e]
  have low : ∀ (q : Fin 2) (sh : ℕ) (s : ℕ), s < 6 → sh + 10 ≤ 32 → 10 * s = 32 * q.val + sh →
      (IntOp.shrui .vector (firstRow c arg1 arg9 f1 lg q (ix2 0 l)) (BitVec.ofNat 32 sh)).toNat % 2 ^ 10 = outlierIndex (W (128 * lg.val + l.val)) s := fun q sh s hs h hq => by
    rw [outlierIndex, if_pos hs, shr _ _ (by omega), e q]
    exact toNat_mod_eq (width := 10) fun i hi => by rw [getLsbD_low _ _ _ _ (by omega), hq]
  refine (congrArg (fun v => BitVec.toNat v % 1024) (rows_apply (fun s : Fin 8 => match s with
    | 0 => shrui (firstRow c arg1 arg9 f1 lg 0) (broadcast S1x128 0#32)
    | 1 => shrui (firstRow c arg1 arg9 f1 lg 0) (broadcast S1x128 10#32)
    | 2 => shrui (firstRow c arg1 arg9 f1 lg 0) (broadcast S1x128 20#32)
    | 3 => ori (shrui (firstRow c arg1 arg9 f1 lg 0) (broadcast S1x128 30#32)) (shli (firstRow c arg1 arg9 f1 lg 1) (broadcast S1x128 2#32))
    | 4 => shrui (firstRow c arg1 arg9 f1 lg 1) (broadcast S1x128 8#32)
    | 5 => shrui (firstRow c arg1 arg9 f1 lg 1) (broadcast S1x128 18#32)
    | 6 => broadcast S1x128 0#32
    | 7 => broadcast S1x128 0#32) s l)).trans ?_
  fin_cases s
  · exact low 0 0 0 (by omega) (by omega) rfl
  · exact low 0 10 1 (by omega) (by omega) rfl
  · exact low 0 20 2 (by omega) (by omega) rfl
  · show (IntOp.shrui .vector (firstRow c arg1 arg9 f1 lg 0 (ix2 0 l)) (BitVec.ofNat 32 30) ||| IntOp.shli .vector (firstRow c arg1 arg9 f1 lg 1 (ix2 0 l)) 2#32).toNat % 2 ^ 10 = outlierIndex _ 3
    rw [outlierIndex, if_pos (by omega), shr _ _ (by omega), e, e]
    exact toNat_mod_eq (width := 10) fun i hi => getLsbD_across (W (128 * lg.val + l.val)) 0 30 i (by omega) (by omega) (by omega)
  · exact low 1 8 4 (by omega) (by omega) rfl
  · exact low 1 18 5 (by omega) (by omega) rfl
  · rfl
  · rfl

/-- Component `j` of the outlier vector at sublane `s`, as the kernel computes it from its rows of scales and biases. -/
def rowOutlier (W : ℕ → BitVec 32) (co : ℕ → ℕ → BitVec 16) (S B : ℕ → EReal) (s j : ℕ) : EReal :=
  num (co (outlierIndex W s) j) * S (4096 + 8 * j + s) + B (4096 + 8 * j + s)

/-- The low halves of packed words, scaled and shifted. -/
theorem scale_low (m : IVec S8x128 32) (x y : FVec Ideal S8x128 .f32) (j : S8x128.Idx) {a1 a0 : BitVec 16} (hm : m j = a1 ++ a0) :
    (truncf .bf16 (addf (mulf (lowHalf m) x) y) : FVec Ideal S8x128 .bf16) j = num a0 * x j + y j := by
  have h : (lowHalf m : FVec Ideal S8x128 .f32) j = num a0 :=
    (congrArg (fun z => Ideal.ofBits .f32 (IntOp.shli .vector z 16#32)) hm).trans (low_half a0 a1)
  show (lowHalf m : FVec Ideal S8x128 .f32) j * x j + y j = _
  rw [h]

/-- The high halves of packed words, scaled and shifted. -/
theorem scale_high (m : IVec S8x128 32) (x y : FVec Ideal S8x128 .f32) (j : S8x128.Idx) {a1 a0 : BitVec 16} (hm : m j = a1 ++ a0) :
    (truncf .bf16 (addf (mulf (highHalf m) x) y) : FVec Ideal S8x128 .bf16) j = num a1 * x j + y j := by
  have h : (highHalf m : FVec Ideal S8x128 .f32) j = num a1 :=
    (congrArg (fun z => Ideal.ofBits .f32 (z &&& 4294901760#32)) hm).trans (high_half a0 a1)
  show (highHalf m : FVec Ideal S8x128 .f32) j * x j + y j = _
  rw [h]

/-- An entry of an outlier block: the decoded weight. -/
theorem tailBlock_apply (c : Dev nD) (arg1 : Memref sig .tc .vmem S256x319 .i32) (arg3 arg4 : Memref sig .tc .vmem S4160x128 .f32) (arg7 : Memref sig .tc .vmem S32x128 .i32)
    (arg9 : Memref sig .tc .vmem S2x360x128 .i32) (f1 : Bf (F := Ideal) c arg1) (f3 : Bf (F := Ideal) c arg3) (f4 : Bf (F := Ideal) c arg4) (f7 : Bf (F := Ideal) c arg7)
    (lg : Fin 2) (w : Fin 4) (i : Fin 16) (l : Fin 128) (W : ℕ → ℕ → BitVec 32) (co : ℕ → ℕ → BitVec 16) (S B : ℕ → EReal)
    (h1 : ∀ (o : Fin 256) (n : Fin 319), arg1.view.read (Elt Ideal) f1 (ix2 o n) = W o.val n.val) (h0 : ∀ o n, 319 ≤ n → W o n = 0#32)
    (h3 : ∀ (n : Fin 4160) (l : Fin 128), arg3.view.read (Elt Ideal) f3 (ix2 n l) = S n.val)
    (h4 : ∀ (n : Fin 4160) (l : Fin 128), arg4.view.read (Elt Ideal) f4 (ix2 n l) = B n.val)
    (h7 : ∀ (r : Fin 32) (a : Fin 128), arg7.view.read (Elt Ideal) f7 (ix2 r a) = packed co 8 r.val a.val) :
    tailBlock c arg1 arg3 arg4 arg7 arg9 f1 f3 f4 f7 lg w (ix2 i l) = rowOutlier (W (128 * lg.val + l.val)) co S B (i.val / 2) (2 * w.val + i.val % 2) := by
  have hs : i.val / 2 < 8 := by omega
  have m1 := tailField_mod c arg1 arg9 f1 W h1 h0 lg ⟨i.val / 2, hs⟩ l
  have t1 : look (rowOf c (R := 32) arg7 f7) (tailField c arg1 arg9 f1 lg) 3 (8 * w.val) (ix2 ⟨i.val / 2, hs⟩ l) = _ :=
    look_table c (R := 32) arg7 f7 co 3 (by omega) h7 w.val (by omega) (tailField c arg1 arg9 f1 lg) ⟨i.val / 2, hs⟩ l
  have row : ∀ (A : Memref sig .tc .vmem S4160x128 .f32) (f : Bf (F := Ideal) c A) (j : Fin 8),
      tailPerRow c A f j (ix2 ⟨i.val / 2, hs⟩ l) = A.view.read (Elt Ideal) f (ix2 ⟨4096 + 8 * j.val + i.val / 2, by omega⟩ l) := fun A f j =>
    read_rows c A f _ _ rfl (by omega) _ ⟨i.val / 2, hs⟩ l
  rw [m1] at t1
  unfold tailBlock rowOutlier
  refine (interleave_apply _ _ i l).trans ?_
  by_cases h : i.val % 2 = 0
  · rw [if_pos h, h, Nat.add_zero]
    refine (scale_low _ _ _ _ t1).trans ?_
    rw [row, row, h3, h4]
  · rw [if_neg h, show i.val % 2 = 1 by omega]
    refine (scale_high _ _ _ _ t1).trans ?_
    rw [row, row, h3, h4]

end Cert.KernelIdeal.Decode

end
-- ==== Proof.KernelIdeal.Weights.lean ====
/-
  The weight scratch after the loop and the tail, entry by entry.
-/
module

public import proofs.«01_k».proof.Proof.KernelIdeal.TailVal

@[expose] public section

noncomputable section

namespace Cert.KernelIdeal.Decode

open Cert.KernelIdeal Cert.KernelIdeal.Gen Cert.Decode
open Idealize.ShloMosaic Idealize.ShloMosaic.TcCoe

/-- The weight in row `k` of the scratch, for the words `W` of one output column. -/
def weightRow (W : ℕ → BitVec 32) (cm cr co : ℕ → ℕ → BitVec 16) (S B : ℕ → EReal) (k : ℕ) : EReal :=
  if k < 4096 then rowRegular W cm cr S B (k / 64) (k % 16 / 2) (2 * (k % 64 / 16) + k % 2)
  else rowOutlier W co S B (k % 16 / 2) (2 * (k % 64 / 16) + k % 2)

/-- The weight scratch as one array. -/
def scratchWeights (W : ℕ → ℕ → BitVec 32) (cm cr co : ℕ → ℕ → BitVec 16) (S B : ℕ → EReal) : S4160x256.Idx → EReal :=
  fun y => weightRow (W (y 1).val) cm cr co S B (y 0).val

/-- A 16 by 128 block of the scratch that starts at row `r0`, lane `l0`. -/
theorem mem_block (r0 l0 : ℕ) (off : Fin 2 → ℕ) (ho : off = ![r0, l0]) (h : ∀ a : Fin 2, off a + S16x128.size a ≤ S4160x256.size a) (k : Fin 4160) (o : Fin 256)
    (h1 : r0 ≤ k.val) (h2 : k.val < r0 + 16) (h3 : l0 ≤ o.val) (h4 : o.val < l0 + 128) :
    (ix2 k o : S4160x256.Idx) ∈ (Rect.unit (s := S4160x256) off S16x128.size h).set := by
  subst ho
  refine (LoadRect.mem_set _).mpr fun a => ?_
  fin_cases a
  · exact ⟨k.val - r0, by show k.val - r0 < 16; omega, by show k.val = r0 + 1 * (k.val - r0); omega⟩
  · exact ⟨o.val - l0, by show o.val - l0 < 128; omega, by show o.val = l0 + 1 * (o.val - l0); omega⟩

/-- Where a block's entries lie in the scratch. -/
theorem emb_block (r0 l0 : ℕ) (off : Fin 2 → ℕ) (ho : off = ![r0, l0]) (h : ∀ a : Fin 2, off a + S16x128.size a ≤ S4160x256.size a) (i : Fin 16) (l : Fin 128)
    (W : ℕ → ℕ → BitVec 32) (cm cr co : ℕ → ℕ → BitVec 16) (S B : ℕ → EReal) :
    scratchWeights W cm cr co S B ((Rect.unit (s := S4160x256) off S16x128.size h).emb (ix2 i l)) = weightRow (W (l0 + l.val)) cm cr co S B (r0 + i.val) := by
  subst ho
  show weightRow (W (l0 + 1 * l.val)) cm cr co S B (r0 + 1 * i.val) = _
  rw [Nat.one_mul, Nat.one_mul]

section

variable (c : Dev nD) (i : grid0.Coords) (arg1 : Memref sig .tc .vmem S256x319 .i32) (harg1 : arg1.IsWhole) (arg2 : Memref sig .tc .vmem S8x4160 .bf16) (harg2 : arg2.IsWhole)
    (arg3 : Memref sig .tc .vmem S4160x128 .f32) (harg3 : arg3.IsWhole) (arg4 : Memref sig .tc .vmem S4160x128 .f32) (harg4 : arg4.IsWhole)
    (arg5 : Memref sig .tc .vmem S128x128 .i32) (harg5 : arg5.IsWhole) (arg6 : Memref sig .tc .vmem S8x128 .i32) (harg6 : arg6.IsWhole)
    (arg7 : Memref sig .tc .vmem S32x128 .i32) (harg7 : arg7.IsWhole) (arg8 : Memref sig .tc .vmem S8x256 .bf16) (harg8 : arg8.IsWhole)
    (arg9 : Memref sig .tc .vmem S2x360x128 .i32) (harg9 : arg9.IsWhole) (arg10 : Memref sig .tc .vmem S4160x256 .bf16) (harg10 : arg10.IsWhole)
    (f1 : Bf (F := Ideal) c arg1) (f3 : Bf (F := Ideal) c arg3) (f4 : Bf (F := Ideal) c arg4) (f5 : Bf (F := Ideal) c arg5)
    (f6 : Bf (F := Ideal) c arg6) (f7 : Bf (F := Ideal) c arg7) (f10 : Bf (F := Ideal) c arg10)
    (W : ℕ → ℕ → BitVec 32) (cm cr co : ℕ → ℕ → BitVec 16) (S B : ℕ → EReal)
    (h1 : ∀ (o : Fin 256) (n : Fin 319), arg1.view.read (Elt Ideal) f1 (ix2 o n) = W o.val n.val) (h0 : ∀ o n, 319 ≤ n → W o n = 0#32)
    (h3 : ∀ (n : Fin 4160) (l : Fin 128), arg3.view.read (Elt Ideal) f3 (ix2 n l) = S n.val)
    (h4 : ∀ (n : Fin 4160) (l : Fin 128), arg4.view.read (Elt Ideal) f4 (ix2 n l) = B n.val)
    (h5 : ∀ (r a : Fin 128), arg5.view.read (Elt Ideal) f5 (ix2 r a) = packed cm 32 r.val a.val)
    (h6 : ∀ (r : Fin 8) (a : Fin 128), arg6.view.read (Elt Ideal) f6 (ix2 r a) = packed cr 2 r.val a.val)
    (h7 : ∀ (r : Fin 32) (a : Fin 128), arg7.view.read (Elt Ideal) f7 (ix2 r a) = packed co 8 r.val a.val)

include h1 h0 h3 h4 h5 h6 in
/-- Every block of a trip agrees with the array of weights. -/
theorem pieces_agree (k : Fin k0_t1_loop.trips) (p : View.Piece (Elt Ideal) S4160x256 .bf16)
    (hp : p ∈ pieces c arg3 arg4 arg5 arg6 arg9 f3 f4 f5 f6 (arg9.view.writes (Elt Ideal) arg9.view.junk (prologue c arg1 f1)) k) (x : p.1.shape.Idx) :
    p.2 x = scratchWeights W cm cr co S B (p.1.emb x) := by
  unfold pieces at hp
  obtain ⟨r, _, hp⟩ := List.mem_flatMap.mp hp
  obtain ⟨w, _, rfl⟩ := List.mem_map.mp hp
  obtain ⟨a, l, rfl⟩ : ∃ (a : Fin 16) (l : Fin 128), x = ix2 a l := ⟨x 0, x 1, by funext b; fin_cases b <;> rfl⟩
  have hk : k.val < 16 := trips_eq ▸ k.isLt
  have hv := block_apply c arg3 arg4 arg5 arg6 arg9 f3 f4 f5 f6 (arg9.view.writes (Elt Ideal) arg9.view.junk (prologue c arg1 f1)) k r w a l (W (128 * (k.val / 8) + l.val)) cm cr S B h3 h4 h5 h6
    (fun n => prologue_read c arg1 arg9 f1 _ W h1 h0 (group k) n l)
  refine hv.trans (((emb_block _ _ _ (off4_eq k r w) (k0_off4_inb k r w) a l W cm cr co S B).trans ?_).symm)
  unfold weightRow
  rw [if_pos (by omega), Nat.mul_comm (k.val / 8) 128]
  congr 1 <;> omega

include h1 h0 h3 h4 h7 in
/-- Every block of the tail agrees with the array of weights. -/
theorem tailPieces_agree (p : View.Piece (Elt Ideal) S4160x256 .bf16) (hp : p ∈ tailPieces c arg1 arg3 arg4 arg7 arg9 f1 f3 f4 f7) (x : p.1.shape.Idx) :
    p.2 x = scratchWeights W cm cr co S B (p.1.emb x) := by
  unfold tailPieces at hp
  obtain ⟨lg, _, hp⟩ := List.mem_flatMap.mp hp
  obtain ⟨w, _, rfl⟩ := List.mem_map.mp hp
  obtain ⟨a, l, rfl⟩ : ∃ (a : Fin 16) (l : Fin 128), x = ix2 a l := ⟨x 0, x 1, by funext b; fin_cases b <;> rfl⟩
  have hv := tailBlock_apply c arg1 arg3 arg4 arg7 arg9 f1 f3 f4 f7 lg w a l W co S B h1 h0 h3 h4 h7
  refine hv.trans (((emb_block _ _ _ rfl (tail_inb lg w) a l W cm cr co S B).trans ?_).symm)
  unfold weightRow
  rw [if_neg (by omega)]
  congr 1 <;> omega

include h1 h0 h3 h4 h5 h6 in
/-- After `n` trips, the blocks of the first `n` trips hold their weights. -/
theorem afterTrips_read (n : ℕ) (hn : n ≤ k0_t1_loop.trips) (k : Fin 4160) (o : Fin 256) (hk : k.val < 4096) (ht : 8 * (o.val / 128) + k.val / 512 < n) :
    arg10.view.read (Elt Ideal) (afterTrips c i arg1 harg1 arg2 harg2 arg3 harg3 arg4 harg4 arg5 harg5 arg6 harg6 arg7 harg7 arg8 harg8 arg9 harg9 arg10 harg10 f3 f4 f5 f6
        (arg9.view.writes (Elt Ideal) arg9.view.junk (prologue c arg1 f1)) f10 n) (ix2 k o)
      = scratchWeights W cm cr co S B (ix2 k o) := by
  induction n with
  | zero => omega
  | succ n ih =>
    have e := afterTrips_succ (F := Ideal) c i arg1 harg1 arg2 harg2 arg3 harg3 arg4 harg4 arg5 harg5 arg6 harg6 arg7 harg7 arg8 harg8 arg9 harg9 arg10 harg10 f3 f4 f5 f6
        (arg9.view.writes (Elt Ideal) arg9.view.junk (prologue c arg1 f1)) f10 ⟨n, hn⟩
    rw [tripRun_val] at e
    refine (congrArg (fun f => arg10.view.read (Elt Ideal) f (ix2 k o)) e).trans ?_
    refine read_writes_agree (Val := Elt Ideal) (e := .bf16) arg10.view _ (pieces c arg3 arg4 arg5 arg6 arg9 f3 f4 f5 f6 (arg9.view.writes (Elt Ideal) arg9.view.junk (prologue c arg1 f1)) ⟨n, hn⟩) (scratchWeights W cm cr co S B) (pieces_agree c arg1 arg3 arg4 arg5 arg6 arg9 f1 f3 f4 f5 f6 W cm cr co S B h1 h0 h3 h4 h5 h6 ⟨n, hn⟩) _ ?_
    by_cases ht' : 8 * (o.val / 128) + k.val / 512 < n
    · exact Or.inr (ih (by omega) ht')
    · refine Or.inl ⟨piece c arg3 arg4 arg5 arg6 arg9 f3 f4 f5 f6 (arg9.view.writes (Elt Ideal) arg9.view.junk (prologue c arg1 f1)) ⟨n, hn⟩ ⟨k.val / 64 % 8, by omega⟩ ⟨k.val % 64 / 16, by omega⟩, ?_, ?_⟩
      · unfold pieces
        refine List.mem_flatMap.mpr ⟨⟨k.val / 64 % 8, by omega⟩, ?_, List.mem_map.mpr ⟨⟨k.val % 64 / 16, by omega⟩, ?_, rfl⟩⟩
        · exact (by decide : ∀ r : Fin 8, r ∈ ([7, 6, 5, 4, 3, 2, 1, 0] : List (Fin 8))) _
        · exact (by decide : ∀ r : Fin 4, r ∈ ([3, 2, 1, 0] : List (Fin 4))) _
      · have hn16 : n < 16 := by have := trips_eq; omega
        refine mem_block _ _ _ (off4_eq ⟨n, hn⟩ ⟨k.val / 64 % 8, by omega⟩ ⟨k.val % 64 / 16, by omega⟩) (k0_off4_inb _ _ _) k o ?_ ?_ ?_ ?_ <;> dsimp only <;> omega

include h1 h0 h3 h4 h5 h6 h7 in
/-- The weight scratch the product reads holds the weights, whatever it held before. -/
theorem weights_read (k : Fin 4160) (o : Fin 256) :
    arg10.view.read (Elt Ideal) (weights c i arg1 harg1 arg2 harg2 arg3 harg3 arg4 harg4 arg5 harg5 arg6 harg6 arg7 harg7 arg8 harg8 arg9 harg9 arg10 harg10 f1 f3 f4 f5 f6 f7 f10) (ix2 k o)
      = scratchWeights W cm cr co S B (ix2 k o) := by
  unfold weights
  refine read_writes_agree (Val := Elt Ideal) (e := .bf16) arg10.view _ (tailPieces c arg1 arg3 arg4 arg7 arg9 f1 f3 f4 f7) (scratchWeights W cm cr co S B) (tailPieces_agree c arg1 arg3 arg4 arg7 arg9 f1 f3 f4 f7 W cm cr co S B h1 h0 h3 h4 h7) _ ?_
  by_cases hk : k.val < 4096
  · refine Or.inr (afterTrips_read c i arg1 harg1 arg2 harg2 arg3 harg3 arg4 harg4 arg5 harg5 arg6 harg6 arg7 harg7 arg8 harg8 arg9 harg9 arg10 harg10 f1 f3 f4 f5 f6 f10
      W cm cr co S B h1 h0 h3 h4 h5 h6 _ le_rfl k o hk ?_)
    have := trips_eq; omega
  · refine Or.inl ⟨tailPiece c arg1 arg3 arg4 arg7 arg9 f1 f3 f4 f7 ⟨o.val / 128, by omega⟩ ⟨k.val % 64 / 16, by omega⟩, ?_, ?_⟩
    · unfold tailPieces
      refine List.mem_flatMap.mpr ⟨⟨o.val / 128, by omega⟩, ?_, List.mem_map.mpr ⟨⟨k.val % 64 / 16, by omega⟩, ?_, rfl⟩⟩
      · exact (by decide : ∀ r : Fin 2, r ∈ ([1, 0] : List (Fin 2))) _
      · exact (by decide : ∀ r : Fin 4, r ∈ ([3, 2, 1, 0] : List (Fin 4))) _
    · refine mem_block _ _ _ rfl (tail_inb _ _) k o ?_ ?_ ?_ ?_ <;> dsimp only <;> omega

end

end Cert.KernelIdeal.Decode

end
-- ==== Proof.KernelIdeal.Entry.lean ====
/-
  The kernel's sum over its rows of weights is the entry of the result.
-/
module

public import proofs.«01_k».proof.Proof.KernelIdeal.HostVal
public import proofs.«01_k».proof.Proof.KernelIdeal.Weights

@[expose] public section

noncomputable section

namespace Cert.KernelIdeal.Decode

open Cert.KernelIdeal Cert.KernelIdeal.Gen Cert.Decode
open Idealize.ShloMosaic Idealize.ShloMosaic.TcCoe

/-- The scales (or biases) in the order of the kernel's rows. -/
def cols (v : FVec Ideal S4096 .f32) (n : ℕ) : EReal := at1 (α := EReal) v (colAt (n / 64) (n / 8 % 8) (n % 8))

/-- The weight the kernel keeps in row `k` is the decoded weight of the column that row stands for. -/
theorem weightRow_eq (w : ℕ → BitVec 32) (cm : IVec S4096x8 16) (cr : IVec S256x8 16) (co : IVec S1024x8 16) (s b : FVec Ideal S4096 .f32) (k : ℕ) (hk : k < 4160) (h : colOf k < 4096) :
    weightRow w (at2 cm) (at2 cr) (at2 co) (cols s) (cols b) k = weight w (nums cm) (nums cr) (nums co) (at1 (α := EReal) s) (at1 (α := EReal) b) (colOf k) := by
  unfold weightRow
  by_cases hk' : k < 4096
  · rw [if_pos hk']
    have hj : 2 * (k % 64 / 16) + k % 2 < 8 := by omega
    have hs : k % 16 / 2 < 8 := by omega
    have hg : k / 64 < 64 := by omega
    unfold colOf at h ⊢
    generalize 2 * (k % 64 / 16) + k % 2 = j at *
    generalize k % 16 / 2 = q at *
    generalize k / 64 = g at *
    have hc : colAt g j q = 48 + 8 * (8 * (8 * (g / 8) + q) + g % 8) + j := by
      unfold colAt at h ⊢
      rw [if_pos hg] at h ⊢
      split at h
      · rename_i hf; rw [if_pos hf]
      · omega
    have hS : ∀ v : FVec Ideal S4096 .f32, cols v (64 * g + 8 * j + q) = at1 (α := EReal) v (48 + 8 * (8 * (8 * (g / 8) + q) + g % 8) + j) := by
      intro v
      unfold cols
      rw [show (64 * g + 8 * j + q) / 64 = g by omega, show (64 * g + 8 * j + q) / 8 = 8 * g + j by omega, show (8 * g + j) % 8 = j by omega, show (64 * g + 8 * j + q) % 8 = q by omega, hc]
    unfold rowRegular weight
    rw [hc, if_neg (by omega), hS, hS]
    generalize 8 * (8 * (g / 8) + q) + g % 8 = f
    unfold regular
    rw [show (48 + 8 * f + j - 48) / 8 = f by omega, show (48 + 8 * f + j - 48) % 8 = j by omega]
    rfl
  · rw [if_neg hk']
    have hj : 2 * (k % 64 / 16) + k % 2 < 8 := by omega
    have hs : k % 16 / 2 < 8 := by omega
    unfold colOf at h ⊢
    rw [show k / 64 = 64 by omega] at h ⊢
    generalize 2 * (k % 64 / 16) + k % 2 = j at *
    generalize k % 16 / 2 = q at *
    have hq : q < 6 := by
      by_contra hq
      unfold colAt at h
      rw [if_neg (by omega), if_neg hq] at h
      omega
    have hc : colAt 64 j q = 8 * q + j := by
      unfold colAt
      rw [if_neg (by omega), if_pos hq]
    have hS : ∀ v : FVec Ideal S4096 .f32, cols v (4096 + 8 * j + q) = at1 (α := EReal) v (8 * q + j) := by
      intro v
      unfold cols
      rw [show (4096 + 8 * j + q) / 64 = 64 by omega, show (4096 + 8 * j + q) / 8 = 512 + j by omega, show (512 + j) % 8 = j by omega, show (4096 + 8 * j + q) % 8 = q by omega, hc]
    unfold rowOutlier weight outlierIndex
    rw [hc, if_pos hq, if_pos (by omega), hS, hS]
    unfold outlier
    rw [show (8 * q + j) / 8 = q by omega, show (8 * q + j) % 8 = j by omega]
    rfl

/-- The kernel's sum for row `r` of the activations and output column `o`. -/
def rowSum (x : FVec Ideal S3x1x4096 .bf16) (idx : IVec S14336x319 32) (cm : IVec S4096x8 16) (cr : IVec S256x8 16) (co : IVec S1024x8 16) (s b : FVec Ideal S4096 .f32)
    (r : Fin 8) (o : ℕ) : EReal :=
  ∑ k : Fin 4160, (xArray x (ix2 r k) : EReal) * weightRow (words idx o) (at2 cm) (at2 cr) (at2 co) (cols s) (cols b) k.val

/-- In the rows that hold activations, that sum is the entry of the result. -/
theorem rowSum_eq (x : FVec Ideal S3x1x4096 .bf16) (idx : IVec S14336x319 32) (cm : IVec S4096x8 16) (cr : IVec S256x8 16) (co : IVec S1024x8 16) (s b : FVec Ideal S4096 .f32)
    (r : Fin 3) (o : ℕ) : rowSum x idx cm cr co s b ⟨r.val, by omega⟩ o = entry x idx cm cr co s b r o := by
  unfold rowSum entry
  refine sum_rows (fun k => xArray x (ix2 ⟨r.val, by omega⟩ k)) (fun k => weightRow (words idx o) (at2 cm) (at2 cr) (at2 co) (cols s) (cols b) k.val)
    (fun d => x (ix3 r 0 d)) (fun d => weight (words idx o) (nums cm) (nums cr) (nums co) (at1 (α := EReal) s) (at1 (α := EReal) b) d.val) (fun k => ?_) fun k h => ?_
  · exact xArray_apply x r k
  · exact weightRow_eq (words idx o) cm cr co s b k.val k.isLt h

end Cert.KernelIdeal.Decode

end
-- ==== Proof.KernelIdeal.Point.lean ====
/-
  What one grid point leaves in its block of the result.
-/
module

public import proofs.«01_k».proof.Proof.KernelIdeal.Entry
public import Idealize.ShloMosaic.Lib.VecWindow

@[expose] public section

noncomputable section

namespace Cert.KernelIdeal.Decode

open Cert.KernelIdeal Cert.KernelIdeal.Gen Cert.Decode
open Idealize.ShloMosaic Idealize.ShloMosaic.TcCoe

/-- The product of the block, entry by entry. -/
theorem product_apply (x : FVec Ideal S8x4160 .bf16) (W : FVec Ideal S4160x256 .bf16) (r : Fin 8) (o : Fin 256) :
    product x W (ix2 r o) = ∑ k : Fin 4160, (x (ix2 r k) : EReal) * W (ix2 k o) := by
  unfold product
  pointwise

set_option maxHeartbeats 1000000 in
/-- The body on operands that hold the activations `X`, the words `W`, the scales `S`, the biases `B` and the codebooks'
    tables leaves the products with the weights in the result block. -/
theorem body_value (c : Dev nD) (i : grid0.Coords) (arg1 : Memref sig .tc .vmem S256x319 .i32) (harg1 : arg1.IsWhole) (arg2 : Memref sig .tc .vmem S8x4160 .bf16) (harg2 : arg2.IsWhole)
    (arg3 : Memref sig .tc .vmem S4160x128 .f32) (harg3 : arg3.IsWhole) (arg4 : Memref sig .tc .vmem S4160x128 .f32) (harg4 : arg4.IsWhole)
    (arg5 : Memref sig .tc .vmem S128x128 .i32) (harg5 : arg5.IsWhole) (arg6 : Memref sig .tc .vmem S8x128 .i32) (harg6 : arg6.IsWhole)
    (arg7 : Memref sig .tc .vmem S32x128 .i32) (harg7 : arg7.IsWhole) (arg8 : Memref sig .tc .vmem S8x256 .bf16) (harg8 : arg8.IsWhole)
    (arg9 : Memref sig .tc .vmem S2x360x128 .i32) (harg9 : arg9.IsWhole) (arg10 : Memref sig .tc .vmem S4160x256 .bf16) (harg10 : arg10.IsWhole)
    (f1 : Bf (F := Ideal) c arg1) (f2 : Bf (F := Ideal) c arg2) (f3 : Bf (F := Ideal) c arg3) (f4 : Bf (F := Ideal) c arg4) (f5 : Bf (F := Ideal) c arg5)
    (f6 : Bf (F := Ideal) c arg6) (f7 : Bf (F := Ideal) c arg7) (f8 : Bf (F := Ideal) c arg8) (f9 : Bf (F := Ideal) c arg9) (f10 : Bf (F := Ideal) c arg10)
    (X : Fin 8 → Fin 4160 → EReal) (W : ℕ → ℕ → BitVec 32) (cm cr co : ℕ → ℕ → BitVec 16) (S B : ℕ → EReal)
    (h1 : ∀ (o : Fin 256) (n : Fin 319), arg1.view.read (Elt Ideal) f1 (ix2 o n) = W o.val n.val) (h0 : ∀ o n, 319 ≤ n → W o n = 0#32)
    (h2 : ∀ (r : Fin 8) (k : Fin 4160), arg2.view.read (Elt Ideal) f2 (ix2 r k) = X r k)
    (h3 : ∀ (n : Fin 4160) (l : Fin 128), arg3.view.read (Elt Ideal) f3 (ix2 n l) = S n.val)
    (h4 : ∀ (n : Fin 4160) (l : Fin 128), arg4.view.read (Elt Ideal) f4 (ix2 n l) = B n.val)
    (h5 : ∀ (r a : Fin 128), arg5.view.read (Elt Ideal) f5 (ix2 r a) = packed cm 32 r.val a.val)
    (h6 : ∀ (r : Fin 8) (a : Fin 128), arg6.view.read (Elt Ideal) f6 (ix2 r a) = packed cr 2 r.val a.val)
    (h7 : ∀ (r : Fin 32) (a : Fin 128), arg7.view.read (Elt Ideal) f7 (ix2 r a) = packed co 8 r.val a.val) (r : Fin 8) (o : Fin 256) :
    arg8.view.read (Elt Ideal) (bodyRun c i arg1 harg1 arg2 harg2 arg3 harg3 arg4 harg4 arg5 harg5 arg6 harg6 arg7 harg7 arg8 harg8 arg9 harg9 arg10 harg10 f1 f2 f3 f4 f5 f6 f7 f8 f9 f10).1.1 (ix2 r o)
      = ∑ k : Fin 4160, X r k * weightRow (W o.val) cm cr co S B k.val := by
  rw [bodyRun_val]
  refine (congrFun (View.read_writes_full (Val := Elt Ideal) (e := .bf16) arg8.view f8 inb_S8x256_S8x256_0_0 _ []) (ix2 r o)).trans ?_
  refine (product_apply _ _ r o).trans ?_
  refine Finset.sum_congr rfl fun k _ => congrArg₂ (HMul.hMul (α := EReal) (β := EReal) (γ := EReal)) ?_ ?_
  · refine (congrFun (shapeCast_self (α := EReal) (s := S8x4160) _ _) (ix2 r k)).trans ?_
    exact (congrFun (View.readAt_full (Val := Elt Ideal) (e := .bf16) arg2.view f2 inb_S8x4160_S8x4160_0_0) (ix2 r k)).trans (h2 r k)
  · refine (congrFun (View.readAt_full (Val := Elt Ideal) (e := .bf16) arg10.view _ inb_S4160x256_S4160x256_0_0) (ix2 k o)).trans ?_
    exact weights_read c i arg1 harg1 arg2 harg2 arg3 harg3 arg4 harg4 arg5 harg5 arg6 harg6 arg7 harg7 arg8 harg8 arg9 harg9 arg10 harg10 f1 f3 f4 f5 f6 f7 f10
      W cm cr co S B h1 h0 h3 h4 h5 h6 h7 k o

end Cert.KernelIdeal.Decode

end
-- ==== Proof.KernelIdeal.Windows.lean ====
/-
  The blocks the windows hand the kernel at a grid point, entry by entry: 256 rows of the words, and the whole of every
  other operand.
-/
module

public import proofs.«01_k».proof.Proof.KernelIdeal.Host
public import proofs.«01_k».proof.Proof.Cut
public import Idealize.ShloMosaic.Lib.Pipeline.ValueKit

@[expose] public section

set_option maxRecDepth 16384

noncomputable section

namespace Cert.KernelIdeal.Decode

open Cert.KernelIdeal Cert.KernelIdeal.Gen Cert.Decode
open Idealize.ShloMosaic Idealize.ShloMosaic.TcCoe

variable (m : (ℓ : Loc nD τ sig) → Buf (Elt Ideal) ℓ)

/-- The activations on core `c`. -/
abbrev argX (c : Dev nD) : FVec Ideal S3x1x4096 .bf16 := m ((c : Thread nD τ).loc main_arg0)
/-- The packed words on core `c`. -/
abbrev argWords (c : Dev nD) : IVec S14336x319 32 := m ((c : Thread nD τ).loc main_arg1)
/-- The main codebook, as bit patterns on core `c`. -/
abbrev argMain (c : Dev nD) : IVec S4096x8 16 := m ((c : Thread nD τ).loc main_arg2)
/-- The residual codebook, as bit patterns on core `c`. -/
abbrev argRes (c : Dev nD) : IVec S256x8 16 := m ((c : Thread nD τ).loc main_arg3)
/-- The outlier codebook, as bit patterns on core `c`. -/
abbrev argOut (c : Dev nD) : IVec S1024x8 16 := m ((c : Thread nD τ).loc main_arg4)
/-- The column scales on core `c`. -/
abbrev argScale (c : Dev nD) : FVec Ideal S4096 .f32 := m ((c : Thread nD τ).loc main_arg5)
/-- The column biases on core `c`. -/
abbrev argBias (c : Dev nD) : FVec Ideal S4096 .f32 := m ((c : Thread nD τ).loc main_arg6)

/-- The words' block at point `t` is the `t`-th group of 256 rows. -/
theorem index_0 : ∀ t : Fin cfg0.N, win0_0.index t = ![t.val, 0] := (by decide +kernel : ∀ t : Fin grid0.N, win0_0.index t = ![t.val, 0])
/-- The result's block at point `t` is the `t`-th group of 256 columns. -/
theorem index_7 : ∀ t : Fin cfg0.N, win0_7.index t = ![0, t.val] := (by decide +kernel : ∀ t : Fin grid0.N, win0_7.index t = ![0, t.val])
/-- The block of the activations, padded and reordered is the same at every point. -/
theorem index_1 : ∀ t : Fin cfg0.N, win0_1.index t = ![0, 0] := (by decide +kernel : ∀ t : Fin grid0.N, win0_1.index t = ![0, 0])
/-- The block of the column scales is the same at every point. -/
theorem index_2 : ∀ t : Fin cfg0.N, win0_2.index t = ![0, 0] := (by decide +kernel : ∀ t : Fin grid0.N, win0_2.index t = ![0, 0])
/-- The block of the column biases is the same at every point. -/
theorem index_3 : ∀ t : Fin cfg0.N, win0_3.index t = ![0, 0] := (by decide +kernel : ∀ t : Fin grid0.N, win0_3.index t = ![0, 0])
/-- The block of the main codebook is the same at every point. -/
theorem index_4 : ∀ t : Fin cfg0.N, win0_4.index t = ![0, 0] := (by decide +kernel : ∀ t : Fin grid0.N, win0_4.index t = ![0, 0])
/-- The block of the residual codebook is the same at every point. -/
theorem index_5 : ∀ t : Fin cfg0.N, win0_5.index t = ![0, 0] := (by decide +kernel : ∀ t : Fin grid0.N, win0_5.index t = ![0, 0])
/-- The block of the outlier codebook is the same at every point. -/
theorem index_6 : ∀ t : Fin cfg0.N, win0_6.index t = ![0, 0] := (by decide +kernel : ∀ t : Fin grid0.N, win0_6.index t = ![0, 0])

/-- There are 56 points. -/
theorem point_lt (t : Fin cfg0.N) : t.val < 56 := t.isLt.trans_eq N_0

/-- Row `o` of the words' block at point `t` is row `256 t + o` of the words. -/
theorem block_words (c : Dev nD) (t : Fin cfg0.N) (o : Fin 256) (n : Fin 319) :
    iblk m c 0 t (ix2 o n) = at2 (argWords m c) (256 * t.val + o.val) n.val := by
  have h : 256 * t.val + o.val < 14336 := by have := point_lt t; omega
  refine Eq.trans ?_ (at2_eq (argWords m c) _ _ ⟨256 * t.val + o.val, h⟩ n rfl rfl)
  unfold argWords
  rw [← V_main_arg1 m c]
  blk_simp [iblk]
  blk_ext [index_0]

/-- The block of the activations, padded and reordered is the whole array. -/
theorem block_x (c : Dev nD) (t : Fin cfg0.N) (r : Fin 8) (k : Fin 4160) :
    iblk m c 1 t (ix2 r k) = (xArray (argX m c) : FVec Ideal S8x4160 .bf16) (ix2 r k) := by
  unfold argX
  rw [← V_x m c]
  blk_simp [iblk]
  blk_ext [index_1]

/-- The block of the column scales is the whole array. -/
theorem block_scale (c : Dev nD) (t : Fin cfg0.N) (r : Fin 4160) (k : Fin 128) :
    iblk m c 2 t (ix2 r k) = (colArray (argScale m c) : FVec Ideal S4160x128 .f32) (ix2 r k) := by
  unfold argScale
  rw [← V_scale m c]
  blk_simp [iblk]
  blk_ext [index_2]

/-- The block of the column biases is the whole array. -/
theorem block_bias (c : Dev nD) (t : Fin cfg0.N) (r : Fin 4160) (k : Fin 128) :
    iblk m c 3 t (ix2 r k) = (colArray (argBias m c) : FVec Ideal S4160x128 .f32) (ix2 r k) := by
  unfold argBias
  rw [← V_bias m c]
  blk_simp [iblk]
  blk_ext [index_3]

/-- The block of the main codebook is the whole array. -/
theorem block_main (c : Dev nD) (t : Fin cfg0.N) (r : Fin 128) (k : Fin 128) :
    iblk m c 4 t (ix2 r k) = (mainTable (argMain m c) : IVec S128x128 32) (ix2 r k) := by
  unfold argMain
  rw [← V_main m c]
  blk_simp [iblk]
  blk_ext [index_4]

/-- The block of the residual codebook is the whole array. -/
theorem block_res (c : Dev nD) (t : Fin cfg0.N) (r : Fin 8) (k : Fin 128) :
    iblk m c 5 t (ix2 r k) = (resTable (argRes m c) : IVec S8x128 32) (ix2 r k) := by
  unfold argRes
  rw [← V_res m c]
  blk_simp [iblk]
  blk_ext [index_5]

/-- The block of the outlier codebook is the whole array. -/
theorem block_out (c : Dev nD) (t : Fin cfg0.N) (r : Fin 32) (k : Fin 128) :
    iblk m c 6 t (ix2 r k) = (outTable (argOut m c) : IVec S32x128 32) (ix2 r k) := by
  unfold argOut
  rw [← V_out m c]
  blk_simp [iblk]
  blk_ext [index_6]

end Cert.KernelIdeal.Decode

end
-- ==== Proof.KernelIdeal.ValueLaunch.lean ====
/-
  The launch again, now with the values: at every point the body leaves in its block of the result the products of the
  activations with the decoded weights, and after the last point the result array holds all of them.
-/
module

public import proofs.«01_k».proof.Proof.KernelIdeal.Owns
public import proofs.«01_k».proof.Proof.KernelIdeal.Point
public import proofs.«01_k».proof.Proof.KernelIdeal.Windows
public import proofs.«01_k».proof.Proof.KernelIdeal.HostVal
public import Idealize.ShloMosaic.Lib.Pipeline.FrameSuffix
public import Idealize.ShloMosaic.Lib.Pipeline.ValueKit

@[expose] public section

set_option maxRecDepth 16384

noncomputable section

namespace Cert.KernelIdeal.Decode.Valued

open Cert.KernelIdeal Cert.KernelIdeal.Gen Cert.Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- Entry `(r, o)` of the kernel's result array, over the arguments of core `c`. -/
def fullValue (c : Dev nD) : FVec Ideal S8x14336 .bf16 := fun y =>
  rowSum (argX m c) (argWords m c) (argMain m c)
    (argRes m c) (argOut m c) (argScale m c)
    (argBias m c) (y 0) (y 1).val

/-- The block of it that belongs to point `t`: columns `256 t` and on. -/
def blockValue (c : Dev nD) (t : Fin cfg0.N) : FVec Ideal S8x256 .bf16 := fun y =>
  rowSum (argX m c) (argWords m c) (argMain m c)
    (argRes m c) (argOut m c) (argScale m c)
    (argBias m c) (y 0) (256 * t.val + (y 1).val)

/-- What the run of the body leaves in the result block at point `t`, whatever the block and the scratches held. -/
theorem run_value (c : Dev nD) (t : Fin cfg0.N) (i : grid0.Coords) (arg1 : Memref sig .tc .vmem S256x319 .i32) (harg1 : arg1.IsWhole) (arg2 : Memref sig .tc .vmem S8x4160 .bf16) (harg2 : arg2.IsWhole)
    (arg3 : Memref sig .tc .vmem S4160x128 .f32) (harg3 : arg3.IsWhole) (arg4 : Memref sig .tc .vmem S4160x128 .f32) (harg4 : arg4.IsWhole)
    (arg5 : Memref sig .tc .vmem S128x128 .i32) (harg5 : arg5.IsWhole) (arg6 : Memref sig .tc .vmem S8x128 .i32) (harg6 : arg6.IsWhole)
    (arg7 : Memref sig .tc .vmem S32x128 .i32) (harg7 : arg7.IsWhole) (arg8 : Memref sig .tc .vmem S8x256 .bf16) (harg8 : arg8.IsWhole)
    (arg9 : Memref sig .tc .vmem S2x360x128 .i32) (harg9 : arg9.IsWhole) (arg10 : Memref sig .tc .vmem S4160x256 .bf16) (harg10 : arg10.IsWhole)
    (f8 : Bf (F := Ideal) c arg8) (f9 : Bf (F := Ideal) c arg9) (f10 : Bf (F := Ideal) c arg10) :
    arg8.view.read (Elt Ideal) (bodyRun (F := Ideal) c i arg1 harg1 arg2 harg2 arg3 harg3 arg4 harg4 arg5 harg5 arg6 harg6 arg7 harg7 arg8 harg8 arg9 harg9 arg10 harg10
        (harg1.unread (iblk m c 0 t)) (harg2.unread (iblk m c 1 t)) (harg3.unread (iblk m c 2 t)) (harg4.unread (iblk m c 3 t)) (harg5.unread (iblk m c 4 t))
        (harg6.unread (iblk m c 5 t)) (harg7.unread (iblk m c 6 t)) f8 f9 f10).1.1
      = blockValue m c t := by
  funext y
  obtain ⟨r, o, rfl⟩ : ∃ (r : Fin 8) (o : Fin 256), y = ix2 r o := ⟨y 0, y 1, ValueIdx.eq_ix2 y⟩
  refine (body_value c i arg1 harg1 arg2 harg2 arg3 harg3 arg4 harg4 arg5 harg5 arg6 harg6 arg7 harg7 arg8 harg8 arg9 harg9 arg10 harg10 _ _ _ _ _ _ _ f8 f9 f10
    (fun r k => xArray (argX m c) (ix2 r k))
    (fun o n => at2 (argWords m c) (256 * t.val + o) n)
    (at2 (argMain m c)) (at2 (argRes m c)) (at2 (argOut m c))
    (cols (argScale m c)) (cols (argBias m c))
    (fun o n => (congrFun (harg1.read_unread _) _).trans (block_words m c t o n)) (fun o n h => dif_neg fun h' => absurd h'.2 (by omega))
    (fun r k => (congrFun (harg2.read_unread _) _).trans (block_x m c t r k))
    (fun n l => (congrFun (harg3.read_unread _) _).trans ((block_scale m c t n l).trans (colArray_apply _ n l)))
    (fun n l => (congrFun (harg4.read_unread _) _).trans ((block_bias m c t n l).trans (colArray_apply _ n l)))
    (fun r a => (congrFun (harg5.read_unread _) _).trans ((block_main m c t r a).trans (mainTable_apply _ r a)))
    (fun r a => (congrFun (harg6.read_unread _) _).trans ((block_res m c t r a).trans (resTable_apply _ r a)))
    (fun r a => (congrFun (harg7.read_unread _) _).trans ((block_out m c t r a).trans (outTable_apply _ r a))) r o).trans ?_
  rfl

/-- The proof data on core `c`: every input window's staging buffer keeps its block, the result's block is the products',
    the two scratches and the generator register are held at anything between points. -/
def dats (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => blockValue m c t
  Φ _ := Pipeline.ΦA spec0 c
  q _ := fullShare
  owed _ := 0

/-- Every window's array starts at what the launch finds in it. -/
theorem A_eq (c : Dev nD) (w : Fin cfg0.W) : (dats m 0 c).A w = V m c (Pipeline.arrRef spec0 w) := by dsimp only [dats]
/-- The body leaves the block of the words as it was. -/
theorem after_0 (c : Dev nD) (t : Fin cfg0.N) : (dats m 0 c).after 0 t = iblk m c 0 t := by dsimp only [dats]
/-- The body finds the block of the words in its staging buffer. -/
theorem before_0 (c : Dev nD) (t : Fin cfg0.N) (d) : (dats m 0 c).before 0 t d = iblk m c 0 t :=
  before0_0_of m (dats m 0 c) (A_eq m c 0) (fun _ => by dsimp only [dats]) t d
/-- The body leaves the block of the activations as it was. -/
theorem after_1 (c : Dev nD) (t : Fin cfg0.N) : (dats m 0 c).after 1 t = iblk m c 1 t := by dsimp only [dats]
/-- The body finds the block of the activations in its staging buffer. -/
theorem before_1 (c : Dev nD) (t : Fin cfg0.N) (d) : (dats m 0 c).before 1 t d = iblk m c 1 t :=
  before0_1_of m (dats m 0 c) (A_eq m c 1) (fun _ => by dsimp only [dats]) t d
/-- The body leaves the block of the scales as it was. -/
theorem after_2 (c : Dev nD) (t : Fin cfg0.N) : (dats m 0 c).after 2 t = iblk m c 2 t := by dsimp only [dats]
/-- The body finds the block of the scales in its staging buffer. -/
theorem before_2 (c : Dev nD) (t : Fin cfg0.N) (d) : (dats m 0 c).before 2 t d = iblk m c 2 t :=
  before0_2_of m (dats m 0 c) (A_eq m c 2) (fun _ => by dsimp only [dats]) t d
/-- The body leaves the block of the biases as it was. -/
theorem after_3 (c : Dev nD) (t : Fin cfg0.N) : (dats m 0 c).after 3 t = iblk m c 3 t := by dsimp only [dats]
/-- The body finds the block of the biases in its staging buffer. -/
theorem before_3 (c : Dev nD) (t : Fin cfg0.N) (d) : (dats m 0 c).before 3 t d = iblk m c 3 t :=
  before0_3_of m (dats m 0 c) (A_eq m c 3) (fun _ => by dsimp only [dats]) t d
/-- The body leaves the block of the main codebook as it was. -/
theorem after_4 (c : Dev nD) (t : Fin cfg0.N) : (dats m 0 c).after 4 t = iblk m c 4 t := by dsimp only [dats]
/-- The body finds the block of the main codebook in its staging buffer. -/
theorem before_4 (c : Dev nD) (t : Fin cfg0.N) (d) : (dats m 0 c).before 4 t d = iblk m c 4 t :=
  before0_4_of m (dats m 0 c) (A_eq m c 4) (fun _ => by dsimp only [dats]) t d
/-- The body leaves the block of the residual codebook as it was. -/
theorem after_5 (c : Dev nD) (t : Fin cfg0.N) : (dats m 0 c).after 5 t = iblk m c 5 t := by dsimp only [dats]
/-- The body finds the block of the residual codebook in its staging buffer. -/
theorem before_5 (c : Dev nD) (t : Fin cfg0.N) (d) : (dats m 0 c).before 5 t d = iblk m c 5 t :=
  before0_5_of m (dats m 0 c) (A_eq m c 5) (fun _ => by dsimp only [dats]) t d
/-- The body leaves the block of the outlier codebook as it was. -/
theorem after_6 (c : Dev nD) (t : Fin cfg0.N) : (dats m 0 c).after 6 t = iblk m c 6 t := by dsimp only [dats]
/-- The body finds the block of the outlier codebook in its staging buffer. -/
theorem before_6 (c : Dev nD) (t : Fin cfg0.N) (d) : (dats m 0 c).before 6 t d = iblk m c 6 t :=
  before0_6_of m (dats m 0 c) (A_eq m c 6) (fun _ => by dsimp only [dats]) t d

/-- The body leaves the result's block at its value. -/
theorem after_7 (c : Dev nD) (t : Fin cfg0.N) : (dats m 0 c).after 7 t = blockValue m c t := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d))
    ∗ (∃ d, owns (c : Thread nD τ) (st0_7 t) fullShare ((dats m 0 c).before 7 t d)))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t)
    ∗ owns (c : Thread nD τ) (st0_7 t) fullShare ((dats m 0 c).after 7 t))

/-- The two scratches of the invariant, as the body's memrefs. -/
theorem scratch_eq (c : Dev nD) :
    (Pipeline.ΦA spec0 c : sProp 𝕄)
      = iprop(iprop((∃ f9, pt (F := Ideal) c (Memref.whole cc0_scratch0) f9) ∗ (∃ f10, pt (F := Ideal) c (Memref.whole cc0_scratch1) f10)) ∗ (∃ r, prngReg c r)) := by
  unfold Pipeline.ΦA
  rw [scopedRest0_eq c]

/-- The body at a point: the inputs' staging buffers at their blocks, the run, everything handed back. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl, scratch_eq]
  simp only [before_0 m c t, after_0 m c t, before_1 m c t, after_1 m c t, before_2 m c t, after_2 m c t, before_3 m c t, after_3 m c t, before_4 m c t, after_4 m c t, before_5 m c t, after_5 m c t, before_6 m c t, after_6 m c t, after_7 m c t]
  iintro ⟨⟨⟨H9, H10⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩⟩
  iapply (body_owns c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (fun X => X = blockValue m c t) (fun f8 f9 f10 => run_value m c t _ _ _ _ _ _ _ _ _ _ _ _ _ _ _ _ _ _ _ _ _ f8 f9 f10) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H9]; · iexact H9
  isplitl [H10]; · iexact H10
  iintro ⟨H0, H1, H2, H3, H4, H5, H6, ⟨%X8, %hX, H7⟩, H9, H10⟩
  isplitl [H9 H10 Hg]
  · isplitl [H9 H10]
    · isplitl [H9]; · iexact H9
      iexact H10
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  subst hX; iexact H7

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The obligation of the launch theorem. -/
theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- From any memory with zero counters every weakly fair execution of @main terminates, each array at what the points
    leave in it and every other buffer at what the lines after the kernel leave. -/
theorem run_main :
    θ_run defs (onTc (τ := τ) (main (F := Ideal))) (s₀ m ρ)
      (Pipeline.FramePost cfgs (dats m) 0 (Pipeline.afterTail₀ cfgs (dats m) 0 (V0 m) [hostOps1])) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) sfx_sub sfx_fresh sfx_keeps (hmain m Variants.none)
    (hA := A_eq m) (hΦ := fun _ _ => rfl)

end Cert.KernelIdeal.Decode.Valued

end
-- ==== Proof.KernelIdeal.Value.lean ====
/-
  The run of the idealized kernel with the value of its result: entry `(b, 0, o)` is the row of activations times the
  decoded weights.
-/
module

public import proofs.«01_k».proof.Proof.KernelIdeal.ValueLaunch

@[expose] public section

set_option maxRecDepth 16384

noncomputable section

namespace Cert.KernelIdeal.Decode.Valued

open Cert.KernelIdeal Cert.KernelIdeal.Gen Cert.Decode
open Idealize.ShloMosaic Idealize.ShloMosaic.TcCoe Idealize.SL.Sem

variable (m : (ℓ : Loc nD τ sig) → Buf (Elt Ideal) ℓ) (ρ : Dev nD → PrngReg)

/-- After the last point the kernel's result array holds every product. -/
theorem array_value (c : Dev nD) : (dats m 0 c).arrAt 7 cfg0.N = fullValue m c := by
  refine (dats m 0 c).arrAt_eq_of_covers 7 _ (by decide +kernel) fun t hf y => ?_
  rw [after_7]
  obtain ⟨r, o, rfl⟩ : ∃ (r : Fin 8) (o : Fin 256), y = ix2 r o := ⟨y 0, y 1, ValueIdx.eq_ix2 y⟩
  blk_simp
  have h : 256 * t.val + o.val < 14336 := by have := point_lt t; omega
  have e : (win0_7.blk t).view.emb (ix2 r o) = ix2 r ⟨256 * t.val + o.val, h⟩ := by blk_ext [index_7]
  rw [e]
  rfl

/-- The result of @main: entry `(b, 0, o)` over the arguments of core `c`. -/
def resultValue (c : Dev nD) : FVec Ideal S3x1x14336 .bf16 := fun i =>
  entry (argX m c) (argWords m c) (argMain m c) (argRes m c) (argOut m c) (argScale m c) (argBias m c) (i 0) (i 2).val

/-- The slice and the reshape that end @main, entry by entry. -/
theorem tail_apply (x : FVec Ideal S8x14336 .bf16) (b : Fin 3) (u : Fin 1) (o : Fin 14336) :
    (shapeCast S3x1x14336 (extractStridedSlice S3x14336 ![0, 0] x slices_S8x14336_S3x14336_0_0) shapeCasts_S3x14336_S3x1x14336 : FVec Ideal S3x1x14336 .bf16) (ix3 b u o)
      = x (ix2 ⟨b.val, by omega⟩ o) := by
  pointwise

/-- What the lines after the kernel leave in the result of @main. -/
theorem tail_value (c : Dev nD) :
    Pipeline.afterTail₀ cfgs (dats m) 0 (V0 m) [hostOps1] c main_v59 = resultValue m c := by
  have h : Pipeline.afterTail₀ cfgs (dats m) 0 (V0 m) [hostOps1] c main_v59
      = (shapeCast S3x1x14336 (extractStridedSlice S3x14336 ![0, 0] (fullValue m c) slices_S8x14336_S3x14336_0_0) shapeCasts_S3x14336_S3x1x14336 : FVec Ideal S3x1x14336 .bf16) := by
    unfold Pipeline.afterTail₀
    simp only [List.flatten_cons, List.flatten_nil, List.append_nil]
    after_results_simp
    rw [show Pipeline.withArrays (cfgs 0).spec c (V0 m c) (fun w => (dats m 0 c).arrAt w (cfgs 0).N) (Proc.tc.devRef main_v57) = fullValue m c from
      (Pipeline.withArrays_arr (cfgs 0).spec (by decide : Function.Injective (Pipeline.arrRef spec0)) c (V0 m c) (fun w => (dats m 0 c).arrAt w (cfgs 0).N) 7).trans (array_value m c)]
    rfl
  refine h.trans ?_
  funext i
  obtain ⟨b, u, o, rfl⟩ : ∃ (b : Fin 3) (u : Fin 1) (o : Fin 14336), i = ix3 b u o := ⟨i 0, i 1, i 2, ValueIdx.eq_ix3 i⟩
  refine (tail_apply _ b u o).trans ?_
  exact rowSum_eq (argX m c) (argWords m c) (argMain m c) (argRes m c) (argOut m c) (argScale m c) (argBias m c) b o.val

/-- The run of @main leaves the result at its value and every argument array as it was. -/
theorem run :
    θ_run defs (onTc (τ := τ) (main (F := Ideal))) ⟨m, fun _ => 0, ρ⟩ (fun r => ∀ c : Dev nD,
      r.2.mem ((c.tc : Thread nD τ).loc main_v59) = resultValue m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      ((h c).2 main_v59 (Pipeline.mem_restRefs_of main_v59 (by decide) (by decide))).trans (tail_value m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩) (run_main m ρ)

end Cert.KernelIdeal.Decode.Valued

end
-- ==== Proof.Gathers.lean ====
/-
  The two gathers of the reference, read at an index: columns of a matrix by a list of column numbers, and rows of a
  table by a matrix of row numbers.
-/
module

public import Idealize.ShloMosaic.Lib.Pointwise
public import Idealize.ShloMosaic.Lib.ValueIdx

@[expose] public section

noncomputable section

namespace Cert.Decode

open Idealize.ShloMosaic

variable {α : Type}

/-- The dimension numbers of the gather of whole columns. -/
abbrev colDims (R N Q : ℕ) (wf : GatherDims.WF ⟨2, ![R, N]⟩ ⟨2, ![Q, 1]⟩ ⟨2, ![R, Q]⟩ [0] [1] [] [1] [] 1 ![R, 1]) :
    GatherDims ⟨2, ![R, N]⟩ ⟨2, ![Q, 1]⟩ ⟨2, ![R, Q]⟩ where
  offsetDims := [0]
  collapsedSliceDims := [1]
  operandBatchingDims := []
  startIndicesBatchingDims := []
  startIndexMap := [1]
  indexVectorDim := 1
  sliceSizes := ![R, 1]
  wf := wf

/-- Column `q` of the result is the column of the matrix that the `q`-th number names. -/
theorem gather_cols_apply {R N Q : ℕ} (hN : 0 < N) (wf : GatherDims.WF ⟨2, ![R, N]⟩ ⟨2, ![Q, 1]⟩ ⟨2, ![R, Q]⟩ [0] [1] [] [1] [] 1 ![R, 1])
    (x : (⟨2, ![R, N]⟩ : Shape).Idx → α) (idx : IVec ⟨2, ![Q, 1]⟩ 32) (r : Fin R) (q : Fin Q) :
    Host.gather (colDims R N Q wf) x idx (ix2 r q) = x (ix2 r ⟨min (idx (ix2 q 0)).toInt.toNat (N - 1), by omega⟩) := by
  unfold Host.gather
  congr 1
  funext a
  refine Fin.ext ?_
  show (colDims R N Q wf).start (ix2 r q) idx a + (colDims R N Q wf).batchCoord (ix2 r q) a + (colDims R N Q wf).offCoord (ix2 r q) a = _
  have h01 : a = 0 ∨ a = 1 := by
    match a with
    | ⟨0, _⟩ => exact Or.inl rfl
    | ⟨1, _⟩ => exact Or.inr rfl
  rw [GatherDims.batchCoord_eq_zero _ _ _ List.not_mem_nil, Nat.add_zero]
  rcases h01 with rfl | rfl
  · have hk : (0 : Fin 2) ∈ (colDims R N Q wf).sKept := (GatherDims.mem_sKept _ _).mpr ⟨fun h => absurd (List.mem_singleton.mp h) (by decide : ¬ (0 : Fin 2) = 1), List.not_mem_nil⟩
    unfold GatherDims.start
    rw [dif_neg (fun h : (0 : Fin 2) ∈ (colDims R N Q wf).startIndexMap => absurd (List.mem_singleton.mp h) (by decide : ¬ (0 : Fin 2) = 1)), Nat.zero_add]
    unfold GatherDims.offCoord
    rw [dif_pos hk]
    rfl
  · rw [GatherDims.offCoord_eq_zero _ _ _ (fun h => ((GatherDims.mem_sKept _ _).mp h).1 (List.mem_singleton.mpr rfl)), Nat.add_zero]
    unfold GatherDims.start
    rw [dif_pos (show (1 : Fin 2) ∈ (colDims R N Q wf).startIndexMap from List.mem_singleton.mpr rfl)]
    have hsi : (colDims R N Q wf).siIdx (ix2 r q) ⟨List.idxOf (1 : Fin 2) (colDims R N Q wf).startIndexMap,
        List.idxOf_lt_length_iff.2 (List.mem_singleton.mpr rfl)⟩ = ix2 q 0 := by
      funext b; refine Fin.ext ?_
      match b with
      | ⟨0, _⟩ => rfl
      | ⟨1, _⟩ => rfl
    rw [hsi]
    rfl

/-- The dimension numbers of the gather of whole rows. -/
abbrev rowDims (N C R Q : ℕ) (wf : GatherDims.WF ⟨2, ![N, C]⟩ ⟨3, ![R, Q, 1]⟩ ⟨3, ![R, Q, C]⟩ [2] [0] [] [0] [] 2 ![1, C]) :
    GatherDims ⟨2, ![N, C]⟩ ⟨3, ![R, Q, 1]⟩ ⟨3, ![R, Q, C]⟩ where
  offsetDims := [2]
  collapsedSliceDims := [0]
  operandBatchingDims := []
  startIndicesBatchingDims := []
  startIndexMap := [0]
  indexVectorDim := 2
  sliceSizes := ![1, C]
  wf := wf

/-- Row `(r, q)` of the result is the row of the table that number `(r, q)` names. -/
theorem gather_rows_apply {N C R Q : ℕ} (hN : 0 < N) (wf : GatherDims.WF ⟨2, ![N, C]⟩ ⟨3, ![R, Q, 1]⟩ ⟨3, ![R, Q, C]⟩ [2] [0] [] [0] [] 2 ![1, C])
    (x : (⟨2, ![N, C]⟩ : Shape).Idx → α) (idx : IVec ⟨3, ![R, Q, 1]⟩ 32) (r : Fin R) (q : Fin Q) (j : Fin C) :
    Host.gather (rowDims N C R Q wf) x idx (ix3 r q j) = x (ix2 ⟨min (idx (ix3 r q 0)).toInt.toNat (N - 1), by omega⟩ j) := by
  unfold Host.gather
  congr 1
  funext a
  refine Fin.ext ?_
  show (rowDims N C R Q wf).start (ix3 r q j) idx a + (rowDims N C R Q wf).batchCoord (ix3 r q j) a + (rowDims N C R Q wf).offCoord (ix3 r q j) a = _
  have h01 : a = 0 ∨ a = 1 := by
    match a with
    | ⟨0, _⟩ => exact Or.inl rfl
    | ⟨1, _⟩ => exact Or.inr rfl
  rw [GatherDims.batchCoord_eq_zero _ _ _ List.not_mem_nil, Nat.add_zero]
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N C R Q wf).startIndexMap from List.mem_singleton.mpr rfl)]
    have hsi : (rowDims N C R Q wf).siIdx (ix3 r q j) ⟨List.idxOf (0 : Fin 2) (rowDims N C R Q wf).startIndexMap,
        List.idxOf_lt_length_iff.2 (List.mem_singleton.mpr rfl)⟩ = ix3 r q 0 := by
      funext b; refine Fin.ext ?_
      match b with
      | ⟨0, _⟩ => rfl
      | ⟨1, _⟩ => rfl
      | ⟨2, _⟩ => rfl
    rw [hsi]
    rfl
  · have hk : (1 : Fin 2) ∈ (rowDims N C R Q wf).sKept := (GatherDims.mem_sKept _ _).mpr ⟨fun h => absurd (List.mem_singleton.mp h) (by decide : ¬ (1 : Fin 2) = 0), List.not_mem_nil⟩
    unfold GatherDims.start
    rw [dif_neg (fun h : (1 : Fin 2) ∈ (rowDims N C R Q wf).startIndexMap => absurd (List.mem_singleton.mp h) (by decide : ¬ (1 : Fin 2) = 0)), Nat.zero_add]
    unfold GatherDims.offCoord
    rw [dif_pos hk]
    rfl

end Cert.Decode

end
-- ==== Proof.ReferenceVal.lean ====
/-
  The reference's result, entry by entry.
-/
module

public import proofs.«01_k».proof.Proof.Gathers
public import proofs.«01_k».proof.Proof.Result
public import proofs.«01_k».proof.Proof.Gen.ReferenceIdeal.Run

@[expose] public section

noncomputable section

namespace Cert.ReferenceIdeal.Decode

open Cert.ReferenceIdeal Cert.ReferenceIdeal.Gen Cert.ReferenceIdeal.Value Cert.Decode
open Idealize.ShloMosaic Idealize.ShloMosaic.TcCoe
open Idealize.ShloMosaic.StableHlo

/-- The words the outlier fields begin in (or run over into). -/
theorem words6_apply (x : IVec S14336x319 32) (idx : IVec S6x1 32) (r : Fin 14336) (f : Fin 6) :
    Host.gather gather_S14336x319_S6x1_S14336x6_0_1_n_n_1_1_143361 x idx (ix2 r f) = x (ix2 r ⟨min (idx (ix2 f 0)).toInt.toNat 318, by omega⟩) :=
  gather_cols_apply (by omega) _ x idx r f

/-- The words the regular fields begin in (or run over into). -/
theorem words506_apply (x : IVec S14336x319 32) (idx : IVec S506x1 32) (r : Fin 14336) (f : Fin 506) :
    Host.gather gather_S14336x319_S506x1_S14336x506_0_1_n_n_1_1_143361 x idx (ix2 r f) = x (ix2 r ⟨min (idx (ix2 f 0)).toInt.toNat 318, by omega⟩) :=
  gather_cols_apply (by omega) _ x idx r f

variable (V0 : Valuation τ sig (Elt Ideal))

/-- The number the reference looks up for outlier vector `f` of row `r`. -/
theorem outlier_number (r : Fin 14336) (f : Fin 6) :
    ((res_main_v41 V0 : IVec S14336x6 32) (ix2 r f)).toNat = fieldNat (words (V0 (Proc.devRef .tc main_arg1)) r.val) (10 * f.val) 10 := by
  unfold res_main_v41 res_main_v14 res_main_v13 res_main_v12 res_main_v6 res_main_v0; dsimp only [id]; pointwise [words6_apply]
  refine cut_host (fun n => (V0 (Proc.devRef .tc main_arg1) : IVec S14336x319 32) (ix2 r n)) _ (fun n => (at2_fin _ r n).symm) (IntOp.muli (BitVec.ofNat 32 f.val) 10#32) (10 * f.val) 10 ?_ (by omega) (by omega) (by omega) _ _
  show (BitVec.ofNat 32 f.val * 10#32).toNat = _
  rw [BitVec.toNat_mul, BitVec.toNat_ofNat, show (10#32).toNat = 10 by rfl]; omega

/-- The number it looks up in the main codebook for regular vector `f` of row `r`. -/
theorem main_number (r : Fin 14336) (f : Fin 506) :
    ((res_main_v71 V0 : IVec S14336x506 32) (ix2 r f)).toNat = fieldNat (words (V0 (Proc.devRef .tc main_arg1)) r.val) (60 + 20 * f.val) 12 := by
  unfold res_main_v71 res_main_v44 res_main_v43 res_main_v42 res_main_v11 res_main_v0; dsimp only [id]; pointwise [words506_apply]
  refine cut_host (fun n => (V0 (Proc.devRef .tc main_arg1) : IVec S14336x319 32) (ix2 r n)) _ (fun n => (at2_fin _ r n).symm) (IntOp.addi 60#32 (IntOp.muli (BitVec.ofNat 32 f.val) 20#32)) (60 + 20 * f.val) 12 ?_ (by omega) (by omega) (by omega) _ _
  show (60#32 + BitVec.ofNat 32 f.val * 20#32).toNat = _
  rw [BitVec.toNat_add, BitVec.toNat_mul, show (BitVec.ofNat 32 f.val).toNat = f.val % 2 ^ 32 from BitVec.toNat_ofNat .., show (60#32).toNat = 60 by rfl, show (20#32).toNat = 20 by rfl]; omega

/-- The number it looks up in the residual codebook for regular vector `f` of row `r`. -/
theorem res_number (r : Fin 14336) (f : Fin 506) :
    ((res_main_v103 V0 : IVec S14336x506 32) (ix2 r f)).toNat = fieldNat (words (V0 (Proc.devRef .tc main_arg1)) r.val) (72 + 20 * f.val) 8 := by
  unfold res_main_v103 res_main_v76 res_main_v75 res_main_v74 res_main_v73 res_main_v11 res_main_v0; dsimp only [id]; pointwise [words506_apply]
  refine cut_host (fun n => (V0 (Proc.devRef .tc main_arg1) : IVec S14336x319 32) (ix2 r n)) _ (fun n => (at2_fin _ r n).symm) (IntOp.addi (IntOp.addi 60#32 (IntOp.muli (BitVec.ofNat 32 f.val) 20#32)) 12#32) (72 + 20 * f.val) 8 ?_ (by omega) (by omega) (by omega) _ _
  show (60#32 + BitVec.ofNat 32 f.val * 20#32 + 12#32).toNat = _
  rw [BitVec.toNat_add, BitVec.toNat_add, BitVec.toNat_mul, show (BitVec.ofNat 32 f.val).toNat = f.val % 2 ^ 32 from BitVec.toNat_ofNat .., show (60#32).toNat = 60 by rfl, show (20#32).toNat = 20 by rfl, show (12#32).toNat = 12 by rfl]; omega

/-- A row of the main codebook, looked up. -/
theorem main_rows_apply {α : Type} (x : S4096x8.Idx → α) (idx : IVec S14336x506x1 32) (r : Fin 14336) (q : Fin 506) (j : Fin 8) :
    Host.gather gather_S4096x8_S14336x506x1_S14336x506x8_2_0_n_n_0_2_18 x idx (ix3 r q j) = x (ix2 ⟨min (idx (ix3 r q 0)).toInt.toNat 4095, by omega⟩ j) :=
  gather_rows_apply (by omega) _ x idx r q j

/-- A row of the residual codebook, looked up. -/
theorem res_rows_apply {α : Type} (x : S256x8.Idx → α) (idx : IVec S14336x506x1 32) (r : Fin 14336) (q : Fin 506) (j : Fin 8) :
    Host.gather gather_S256x8_S14336x506x1_S14336x506x8_2_0_n_n_0_2_18 x idx (ix3 r q j) = x (ix2 ⟨min (idx (ix3 r q 0)).toInt.toNat 255, by omega⟩ j) :=
  gather_rows_apply (by omega) _ x idx r q j

/-- A row of the outlier codebook, looked up. -/
theorem out_rows_apply {α : Type} (x : S1024x8.Idx → α) (idx : IVec S14336x6x1 32) (r : Fin 14336) (q : Fin 6) (j : Fin 8) :
    Host.gather gather_S1024x8_S14336x6x1_S14336x6x8_2_0_n_n_0_2_18 x idx (ix3 r q j) = x (ix2 ⟨min (idx (ix3 r q 0)).toInt.toNat 1023, by omega⟩ j) :=
  gather_rows_apply (by omega) _ x idx r q j

/-- A codebook row looked up at a number below the codebook's length. -/
theorem look_row {N : ℕ} (C : (⟨2, ![N, 8]⟩ : Shape).Idx → BitVec 16) (v n : BitVec 32) (k : ℕ) (hv : v.toNat = k) (hk : k < N) (hN : N ≤ 2 ^ 31) (j : Fin 8)
    (h : min (Scalar.select (IntOp.cmpi .slt v 0#32) (IntOp.addi v n) v).toInt.toNat (N - 1) < N) :
    num (C (ix2 ⟨min (Scalar.select (IntOp.cmpi .slt v 0#32) (IntOp.addi v n) v).toInt.toNat (N - 1), h⟩ j)) = num (at2 C k j.val) := by
  have e : (⟨min (Scalar.select (IntOp.cmpi .slt v 0#32) (IntOp.addi v n) v).toInt.toNat (N - 1), h⟩ : Fin N) = ⟨k, hk⟩ := by
    refine Fin.ext ?_
    show min (Scalar.select (IntOp.cmpi .slt v 0#32) (IntOp.addi v n) v).toInt.toNat (N - 1) = k
    rw [wrap_small v n (by omega), toInt_small v (by omega), hv]; omega
  rw [e, ← at2_fin C ⟨k, hk⟩ j]

/-- The outlier columns of the decoded weights. -/
def outlierPart (T : IVec S1024x8 16) (I : IVec S14336x6 32) (s b : FVec Ideal S4096 .f32) : FVec Ideal S14336x48 .f32 :=
  shapeCast _ (addf (mulf (Host.gather gather_S1024x8_S14336x6x1_S14336x6x8_2_0_n_n_0_2_18 (extf .f32 (bitcastToFloat (F := Ideal) .bf16 T) bitsLt_bf16_f32) (broadcastInDim S14336x6x1 ![0, 1] bcast_S14336x6_S14336x6x1_0_1 (select (cmpi .slt I (broadcastInDim S14336x6 ![] bcast_S_S14336x6 (constantI S_ 32 0#32))) (addi I (broadcastInDim S14336x6 ![] bcast_S_S14336x6 (constantI S_ 32 1024#32))) I))) (broadcastInDim S14336x6x8 ![0, 1, 2] bcast_S1x6x8_S14336x6x8_0_1_2 (broadcastInDim S1x6x8 ![1, 2] bcast_S6x8_S1x6x8_1_2 (shapeCast _ (extractStridedSlice S48 ![0] s slices_S4096_S48_0) shapeCasts_S48_S6x8)))) (broadcastInDim S14336x6x8 ![0, 1, 2] bcast_S1x6x8_S14336x6x8_0_1_2 (broadcastInDim S1x6x8 ![1, 2] bcast_S6x8_S1x6x8_1_2 (shapeCast _ (extractStridedSlice S48 ![0] b slices_S4096_S48_0) shapeCasts_S48_S6x8)))) shapeCasts_S14336x6x8_S14336x48

/-- The regular columns of the decoded weights. -/
def regularPart (T : IVec S4096x8 16) (R : IVec S256x8 16) (I J : IVec S14336x506 32) (s b : FVec Ideal S4096 .f32) : FVec Ideal S14336x4048 .f32 :=
  shapeCast _ (addf (mulf (addf (Host.gather gather_S4096x8_S14336x506x1_S14336x506x8_2_0_n_n_0_2_18 (extf .f32 (bitcastToFloat (F := Ideal) .bf16 T) bitsLt_bf16_f32) (broadcastInDim S14336x506x1 ![0, 1] bcast_S14336x506_S14336x506x1_0_1 (select (cmpi .slt I (broadcastInDim S14336x506 ![] bcast_S_S14336x506 (constantI S_ 32 0#32))) (addi I (broadcastInDim S14336x506 ![] bcast_S_S14336x506 (constantI S_ 32 4096#32))) I))) (Host.gather gather_S256x8_S14336x506x1_S14336x506x8_2_0_n_n_0_2_18 (extf .f32 (bitcastToFloat (F := Ideal) .bf16 R) bitsLt_bf16_f32) (broadcastInDim S14336x506x1 ![0, 1] bcast_S14336x506_S14336x506x1_0_1 (select (cmpi .slt J (broadcastInDim S14336x506 ![] bcast_S_S14336x506 (constantI S_ 32 0#32))) (addi J (broadcastInDim S14336x506 ![] bcast_S_S14336x506 (constantI S_ 32 256#32))) J)))) (broadcastInDim S14336x506x8 ![0, 1, 2] bcast_S1x506x8_S14336x506x8_0_1_2 (broadcastInDim S1x506x8 ![1, 2] bcast_S506x8_S1x506x8_1_2 (shapeCast _ (extractStridedSlice S4048 ![48] s slices_S4096_S4048_48) shapeCasts_S4048_S506x8)))) (broadcastInDim S14336x506x8 ![0, 1, 2] bcast_S1x506x8_S14336x506x8_0_1_2 (broadcastInDim S1x506x8 ![1, 2] bcast_S506x8_S1x506x8_1_2 (shapeCast _ (extractStridedSlice S4048 ![48] b slices_S4096_S4048_48) shapeCasts_S4048_S506x8)))) shapeCasts_S14336x506x8_S14336x4048

/-- The outlier columns, entry by entry, if the numbers looked up are the fields. -/
theorem outlierPart_apply (T : IVec S1024x8 16) (I : IVec S14336x6 32) (s b : FVec Ideal S4096 .f32) (w : ℕ → ℕ → BitVec 32)
    (hI : ∀ (r : Fin 14336) (f : Fin 6), (I (ix2 r f)).toNat = fieldNat (w r.val) (10 * f.val) 10) (o : Fin 14336) (d : Fin 48) :
    outlierPart T I s b (ix2 o d) = outlier (w o.val) (nums T) (at1 (α := EReal) s) (at1 (α := EReal) b) (d.val / 8) (d.val % 8) := by
  unfold outlierPart
  pointwise [out_rows_apply]
  unfold outlier
  refine congrArg₂ (fun a b : EReal => a + b) (congrArg₂ (fun a b : EReal => a * b) ?_ ?_) ?_
  · exact look_row T (I (ix2 o ⟨d.val / 8, by omega⟩)) 1024#32 _ (hI o ⟨d.val / 8, by omega⟩) (fieldNat_lt _ _ _) (by decide) ⟨d.val % 8, by omega⟩ _
  · exact at1_eq (α := EReal) s _ _ (by dsimp only; omega)
  · exact at1_eq (α := EReal) b _ _ (by dsimp only; omega)

/-- The regular columns, entry by entry, if the numbers looked up are the fields. -/
theorem regularPart_apply (T : IVec S4096x8 16) (R : IVec S256x8 16) (I J : IVec S14336x506 32) (s b : FVec Ideal S4096 .f32) (w : ℕ → ℕ → BitVec 32)
    (hI : ∀ (r : Fin 14336) (f : Fin 506), (I (ix2 r f)).toNat = fieldNat (w r.val) (60 + 20 * f.val) 12)
    (hJ : ∀ (r : Fin 14336) (f : Fin 506), (J (ix2 r f)).toNat = fieldNat (w r.val) (72 + 20 * f.val) 8) (o : Fin 14336) (d : Fin 4048) :
    regularPart T R I J s b (ix2 o d) = regular (w o.val) (nums T) (nums R) (at1 (α := EReal) s) (at1 (α := EReal) b) (d.val / 8) (d.val % 8) := by
  unfold regularPart
  pointwise [main_rows_apply, res_rows_apply]
  unfold regular
  refine congrArg₂ (fun a b : EReal => a + b) (congrArg₂ (fun a b : EReal => a * b) (congrArg₂ (fun a b : EReal => a + b) ?_ ?_) ?_) ?_
  · exact look_row T (I (ix2 o ⟨d.val / 8, by omega⟩)) 4096#32 _ (hI o ⟨d.val / 8, by omega⟩) (fieldNat_lt _ _ _) (by decide) ⟨d.val % 8, by omega⟩ _
  · exact look_row R (J (ix2 o ⟨d.val / 8, by omega⟩)) 256#32 _ (hJ o ⟨d.val / 8, by omega⟩) (fieldNat_lt _ _ _) (by decide) ⟨d.val % 8, by omega⟩ _
  · exact at1_eq (α := EReal) s _ _ (by dsimp only; omega)
  · exact at1_eq (α := EReal) b _ _ (by dsimp only; omega)

/-- The decoded weights, in the order of the columns. -/
theorem decoded_apply (A : FVec Ideal S14336x48 .f32) (B : FVec Ideal S14336x4048 .f32) (o : Fin 14336) (d : Fin 4096) :
    (truncf .bf16 (concatenate S14336x4096 1 [⟨S14336x48, A⟩, ⟨S14336x4048, B⟩] concatenates_S14336x48_S14336x4048_S14336x4096_d1) bitsLt_bf16_f32 : FVec Ideal S14336x4096 .bf16) (ix2 o d)
      = if h : d.val < 48 then A (ix2 o ⟨d.val, h⟩) else B (ix2 o ⟨d.val - 48, by omega⟩) := by
  pointwise

/-- The product with any array of weights. -/
theorem product_apply (x : FVec Ideal S3x1x4096 .bf16) (W : FVec Ideal S14336x4096 .bf16) (b : Fin 3) (o : Fin 14336) :
    (truncf .bf16 (Host.dotGeneral dot_S3x1x4096_S14336x4096_S3x1x14336_2_1_01_0_n_n none x W) bitsLt_bf16_f32 : FVec Ideal S3x1x14336 .bf16) (ix3 b 0 o)
      = ∑ d : Fin 4096, x (ix3 b 0 d) * W (ix2 o d) := by
  pointwise

/-- The reference's result, entry by entry. -/
theorem result_apply (b : Fin 3) (o : Fin 14336) :
    (val4 V0 (Proc.devRef .tc main_v154) : FVec Ideal S3x1x14336 .bf16) (ix3 b 0 o)
      = entry (V0 (Proc.devRef .tc main_arg0)) (V0 (Proc.devRef .tc main_arg1)) (V0 (Proc.devRef .tc main_arg2)) (V0 (Proc.devRef .tc main_arg3))
          (V0 (Proc.devRef .tc main_arg4)) (V0 (Proc.devRef .tc main_arg5)) (V0 (Proc.devRef .tc main_arg6)) b o.val := by
  rw [val4_main_v154]
  refine (product_apply _ _ b o).trans ?_
  unfold entry
  refine Finset.sum_congr rfl fun d _ => congrArg (HMul.hMul (α := EReal) (β := EReal) (γ := EReal) _) ?_
  refine (decoded_apply (outlierPart (V0 (Proc.devRef .tc main_arg4)) (res_main_v41 V0) (V0 (Proc.devRef .tc main_arg5)) (V0 (Proc.devRef .tc main_arg6)))
    (regularPart (V0 (Proc.devRef .tc main_arg2)) (V0 (Proc.devRef .tc main_arg3)) (res_main_v71 V0) (res_main_v103 V0) (V0 (Proc.devRef .tc main_arg5)) (V0 (Proc.devRef .tc main_arg6))) o d).trans ?_
  unfold weight
  by_cases h : d.val < 48
  · rw [dif_pos h, if_pos h]
    exact outlierPart_apply _ _ _ _ (words (V0 (Proc.devRef .tc main_arg1))) (outlier_number V0) o ⟨d.val, h⟩
  · rw [dif_neg h, if_neg h]
    exact regularPart_apply _ _ _ _ _ _ (words (V0 (Proc.devRef .tc main_arg1))) (main_number V0) (res_number V0) o ⟨d.val - 48, by omega⟩

end Cert.ReferenceIdeal.Decode

end
-- ==== Proof.lean ====
/-
  The certificate. The kernel's body is run once (Proof/Kernel/Trip.lean, Body.lean, and the same text for the
  idealized program) and the launch carries it over the grid (Launch.lean): the frames. For the values, Proof/Spec.lean
  states the decoded weights; Proof/ReferenceVal.lean reads them off the reference, Proof/KernelIdeal/BodyVal.lean to
  Value.lean off the kernel. The claims are put together here.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Value
public import proofs.«01_k».proof.Proof.ReferenceVal
public import Idealize.ShloMosaic.Adequacy
public import Idealize.ShloMosaic.Init
public import Idealize.ShloMosaic.Lib.Bf16Pair

@[expose] public section

noncomputable section

namespace Cert.Proof

open Idealize.ShloMosaic Idealize.SL.Sem Cert.Kernel

/-- The reference is host operations alone: the signature has no semaphores. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The idealization's rewrites are instances of the pair rule: the pack of two roundings, and the word read as rows. -/
theorem preserves : Cert.preserves_Kernel_KernelIdeal :=
  ⟨IdealRules.bf16_pair.packStatement Cert.KernelIdeal.S8x128,
    IdealRules.bf16_pair.statement Cert.KernelIdeal.S16x128 Cert.KernelIdeal.S8x128⟩

open Cert.ReferenceIdeal.Value Cert.ReferenceIdeal.Decode in
/-- The reference's result is the value the kernel's run leaves, given equal arguments. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : StableHlo.launchContents m' c (Proc.devRef .tc Cert.ReferenceIdeal.main_arg0) = Cert.KernelIdeal.Decode.argX m c)
    (h1 : StableHlo.launchContents m' c (Proc.devRef .tc Cert.ReferenceIdeal.main_arg1) = Cert.KernelIdeal.Decode.argWords m c)
    (h2 : StableHlo.launchContents m' c (Proc.devRef .tc Cert.ReferenceIdeal.main_arg2) = Cert.KernelIdeal.Decode.argMain m c)
    (h3 : StableHlo.launchContents m' c (Proc.devRef .tc Cert.ReferenceIdeal.main_arg3) = Cert.KernelIdeal.Decode.argRes m c)
    (h4 : StableHlo.launchContents m' c (Proc.devRef .tc Cert.ReferenceIdeal.main_arg4) = Cert.KernelIdeal.Decode.argOut m c)
    (h5 : StableHlo.launchContents m' c (Proc.devRef .tc Cert.ReferenceIdeal.main_arg5) = Cert.KernelIdeal.Decode.argScale m c)
    (h6 : StableHlo.launchContents m' c (Proc.devRef .tc Cert.ReferenceIdeal.main_arg6) = Cert.KernelIdeal.Decode.argBias m c) :
    val4 (F := Ideal) (StableHlo.launchContents m' c) (Proc.devRef .tc Cert.ReferenceIdeal.main_v154) = Cert.KernelIdeal.Decode.Valued.resultValue m c := by
  funext i
  obtain ⟨b, u, o, rfl⟩ : ∃ (b : Fin 3) (u : Fin 1) (o : Fin 14336), i = ix3 b u o := ⟨i 0, i 1, i 2, ValueIdx.eq_ix3 i⟩
  obtain rfl : u = 0 := Subsingleton.elim _ _
  refine (result_apply (StableHlo.launchContents m' c) b o).trans ?_
  rw [h0, h1, h2, h3, h4, h5, h6]
  rfl

/-- On equal arguments the idealized kernel and the reference end with equal results. -/
theorem algebraic : Cert.algebraic_KernelIdeal_ReferenceIdeal := fun m g m' g' _ hin =>
  ⟨Cert.KernelIdeal.Decode.Valued.resultValue m, Cert.KernelIdeal.Decode.Valued.run m g,
    (θ_run Cert.ReferenceIdeal.defs _ _).mono
      (fun r h c => ⟨((h c).1.trans (Cert.ReferenceIdeal.Value.val4_main_v154 _).symm).trans
          (reference_value m m' c (hin c).1 (hin c).2.1 (hin c).2.2.1 (hin c).2.2.2.1 (hin c).2.2.2.2.1 (hin c).2.2.2.2.2.1 (hin c).2.2.2.2.2.2),
        (h c).2⟩)
      (Cert.ReferenceIdeal.Value.run (F := Ideal) m' g')⟩

/-- Everything claimed, under the programs' side conditions. -/
theorem claim : Cert.Claim := ⟨Cert.Kernel.Gen.facts, Cert.KernelIdeal.Gen.facts, Cert.ReferenceIdeal.Gen.facts,
  fun m ρ _ => Cert.Kernel.Decode.quiescent m ρ, fun m ρ _ => Cert.KernelIdeal.Decode.quiescent m ρ, frame_reference, preserves, algebraic⟩

end Cert.Proof

end
